-- ==== Defs.lean ====
def Pre_Adapter (m : (ℓ : Loc Cert.Adapter.nD Cert.Adapter.τ Cert.Adapter.sig) → Buf (Elt Bits) ℓ) : Prop :=
  True

def Pre_AdapterIdeal (m : (ℓ : Loc Cert.AdapterIdeal.nD Cert.AdapterIdeal.τ Cert.AdapterIdeal.sig) → Buf (Elt Ideal) ℓ) : Prop :=
  True

def Pre_AdapterIdeal_tame [hPre_tame : Cert.Pre_tame.Facts] (m : (ℓ : Loc Cert.AdapterIdeal.nD Cert.AdapterIdeal.τ Cert.AdapterIdeal.sig) → Buf (Elt Ideal) ℓ) : Prop :=
  ∀ c : Dev Cert.AdapterIdeal.nD,
    (Cert.Pre_tame.fn (F := Ideal) (m ((c.tc : Thread Cert.AdapterIdeal.nD Cert.AdapterIdeal.τ).loc Cert.AdapterIdeal.main_arg0)) (m ((c.tc : Thread Cert.AdapterIdeal.nD Cert.AdapterIdeal.τ).loc Cert.AdapterIdeal.main_arg1)) (m ((c.tc : Thread Cert.AdapterIdeal.nD Cert.AdapterIdeal.τ).loc Cert.AdapterIdeal.main_arg2)) (m ((c.tc : Thread Cert.AdapterIdeal.nD Cert.AdapterIdeal.τ).loc Cert.AdapterIdeal.main_arg3)) (m ((c.tc : Thread Cert.AdapterIdeal.nD Cert.AdapterIdeal.τ).loc Cert.AdapterIdeal.main_arg4)) (m ((c.tc : Thread Cert.AdapterIdeal.nD Cert.AdapterIdeal.τ).loc Cert.AdapterIdeal.main_arg5))) = (fun _ => 1#1)

def Pre_AdapterRefIdeal (m : (ℓ : Loc Cert.AdapterRefIdeal.nD Cert.AdapterRefIdeal.τ Cert.AdapterRefIdeal.sig) → Buf (Elt Ideal) ℓ) : Prop :=
  True

def Pre_AdapterRefIdeal_tame [hPre_tame : Cert.Pre_tame.Facts] (m : (ℓ : Loc Cert.AdapterRefIdeal.nD Cert.AdapterRefIdeal.τ Cert.AdapterRefIdeal.sig) → Buf (Elt Ideal) ℓ) : Prop :=
  ∀ c : Dev Cert.AdapterRefIdeal.nD,
    (Cert.Pre_tame.fn (F := Ideal) (m ((c.tc : Thread Cert.AdapterRefIdeal.nD Cert.AdapterRefIdeal.τ).loc Cert.AdapterRefIdeal.main_arg0)) (m ((c.tc : Thread Cert.AdapterRefIdeal.nD Cert.AdapterRefIdeal.τ).loc Cert.AdapterRefIdeal.main_arg1)) (m ((c.tc : Thread Cert.AdapterRefIdeal.nD Cert.AdapterRefIdeal.τ).loc Cert.AdapterRefIdeal.main_arg2)) (m ((c.tc : Thread Cert.AdapterRefIdeal.nD Cert.AdapterRefIdeal.τ).loc Cert.AdapterRefIdeal.main_arg3)) (m ((c.tc : Thread Cert.AdapterRefIdeal.nD Cert.AdapterRefIdeal.τ).loc Cert.AdapterRefIdeal.main_arg4)) (m ((c.tc : Thread Cert.AdapterRefIdeal.nD Cert.AdapterRefIdeal.τ).loc Cert.AdapterRefIdeal.main_arg5))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_Adapter [hAdapter : Cert.Adapter.Facts] : Prop :=
  ∀ (m : (ℓ : Loc Cert.Adapter.nD Cert.Adapter.τ Cert.Adapter.sig) → Buf (Elt Bits) ℓ) (g : Dev Cert.Adapter.nD → PrngReg), Pre_Adapter m →
    θ_run (Cert.Adapter.defs (F := Bits)) (onTc (τ := Cert.Adapter.τ) (Cert.Adapter.main (F := Bits))) ⟨m, fun _ => 0, g⟩ (fun r => (∀ c : Dev Cert.Adapter.nD,
      r.2.mem ((c.tc : Thread Cert.Adapter.nD Cert.Adapter.τ).loc Cert.Adapter.main_arg0) = m ((c.tc : Thread Cert.Adapter.nD Cert.Adapter.τ).loc Cert.Adapter.main_arg0)
      ∧ r.2.mem ((c.tc : Thread Cert.Adapter.nD Cert.Adapter.τ).loc Cert.Adapter.main_arg1) = m ((c.tc : Thread Cert.Adapter.nD Cert.Adapter.τ).loc Cert.Adapter.main_arg1)
      ∧ r.2.mem ((c.tc : Thread Cert.Adapter.nD Cert.Adapter.τ).loc Cert.Adapter.main_arg2) = m ((c.tc : Thread Cert.Adapter.nD Cert.Adapter.τ).loc Cert.Adapter.main_arg2)
      ∧ r.2.mem ((c.tc : Thread Cert.Adapter.nD Cert.Adapter.τ).loc Cert.Adapter.main_arg3) = m ((c.tc : Thread Cert.Adapter.nD Cert.Adapter.τ).loc Cert.Adapter.main_arg3)
      ∧ r.2.mem ((c.tc : Thread Cert.Adapter.nD Cert.Adapter.τ).loc Cert.Adapter.main_arg4) = m ((c.tc : Thread Cert.Adapter.nD Cert.Adapter.τ).loc Cert.Adapter.main_arg4)
      ∧ r.2.mem ((c.tc : Thread Cert.Adapter.nD Cert.Adapter.τ).loc Cert.Adapter.main_arg5) = m ((c.tc : Thread Cert.Adapter.nD Cert.Adapter.τ).loc Cert.Adapter.main_arg5))
      ∧ r.2.sem = fun _ => 0)

def quiescent_AdapterIdeal [hAdapterIdeal : Cert.AdapterIdeal.Facts] : Prop :=
  ∀ (m : (ℓ : Loc Cert.AdapterIdeal.nD Cert.AdapterIdeal.τ Cert.AdapterIdeal.sig) → Buf (Elt Ideal) ℓ) (g : Dev Cert.AdapterIdeal.nD → PrngReg), Pre_AdapterIdeal m →
    θ_run (Cert.AdapterIdeal.defs (F := Ideal)) (onTc (τ := Cert.AdapterIdeal.τ) (Cert.AdapterIdeal.main (F := Ideal))) ⟨m, fun _ => 0, g⟩ (fun r => (∀ c : Dev Cert.AdapterIdeal.nD,
      r.2.mem ((c.tc : Thread Cert.AdapterIdeal.nD Cert.AdapterIdeal.τ).loc Cert.AdapterIdeal.main_arg0) = m ((c.tc : Thread Cert.AdapterIdeal.nD Cert.AdapterIdeal.τ).loc Cert.AdapterIdeal.main_arg0)
      ∧ r.2.mem ((c.tc : Thread Cert.AdapterIdeal.nD Cert.AdapterIdeal.τ).loc Cert.AdapterIdeal.main_arg1) = m ((c.tc : Thread Cert.AdapterIdeal.nD Cert.AdapterIdeal.τ).loc Cert.AdapterIdeal.main_arg1)
      ∧ r.2.mem ((c.tc : Thread Cert.AdapterIdeal.nD Cert.AdapterIdeal.τ).loc Cert.AdapterIdeal.main_arg2) = m ((c.tc : Thread Cert.AdapterIdeal.nD Cert.AdapterIdeal.τ).loc Cert.AdapterIdeal.main_arg2)
      ∧ r.2.mem ((c.tc : Thread Cert.AdapterIdeal.nD Cert.AdapterIdeal.τ).loc Cert.AdapterIdeal.main_arg3) = m ((c.tc : Thread Cert.AdapterIdeal.nD Cert.AdapterIdeal.τ).loc Cert.AdapterIdeal.main_arg3)
      ∧ r.2.mem ((c.tc : Thread Cert.AdapterIdeal.nD Cert.AdapterIdeal.τ).loc Cert.AdapterIdeal.main_arg4) = m ((c.tc : Thread Cert.AdapterIdeal.nD Cert.AdapterIdeal.τ).loc Cert.AdapterIdeal.main_arg4)
      ∧ r.2.mem ((c.tc : Thread Cert.AdapterIdeal.nD Cert.AdapterIdeal.τ).loc Cert.AdapterIdeal.main_arg5) = m ((c.tc : Thread Cert.AdapterIdeal.nD Cert.AdapterIdeal.τ).loc Cert.AdapterIdeal.main_arg5))
      ∧ r.2.sem = fun _ => 0)

def quiescent_AdapterIdeal_pre_tame [hAdapterIdeal : Cert.AdapterIdeal.Facts] [hPre_tame : Cert.Pre_tame.Facts] : Prop :=
  ∀ (m : (ℓ : Loc Cert.AdapterIdeal.nD Cert.AdapterIdeal.τ Cert.AdapterIdeal.sig) → Buf (Elt Ideal) ℓ) (g : Dev Cert.AdapterIdeal.nD → PrngReg), Pre_AdapterIdeal_tame m →
    θ_run (Cert.AdapterIdeal.defs (F := Ideal)) (onTc (τ := Cert.AdapterIdeal.τ) (Cert.AdapterIdeal.main (F := Ideal))) ⟨m, fun _ => 0, g⟩ (fun r => (∀ c : Dev Cert.AdapterIdeal.nD,
      r.2.mem ((c.tc : Thread Cert.AdapterIdeal.nD Cert.AdapterIdeal.τ).loc Cert.AdapterIdeal.main_arg0) = m ((c.tc : Thread Cert.AdapterIdeal.nD Cert.AdapterIdeal.τ).loc Cert.AdapterIdeal.main_arg0)
      ∧ r.2.mem ((c.tc : Thread Cert.AdapterIdeal.nD Cert.AdapterIdeal.τ).loc Cert.AdapterIdeal.main_arg1) = m ((c.tc : Thread Cert.AdapterIdeal.nD Cert.AdapterIdeal.τ).loc Cert.AdapterIdeal.main_arg1)
      ∧ r.2.mem ((c.tc : Thread Cert.AdapterIdeal.nD Cert.AdapterIdeal.τ).loc Cert.AdapterIdeal.main_arg2) = m ((c.tc : Thread Cert.AdapterIdeal.nD Cert.AdapterIdeal.τ).loc Cert.AdapterIdeal.main_arg2)
      ∧ r.2.mem ((c.tc : Thread Cert.AdapterIdeal.nD Cert.AdapterIdeal.τ).loc Cert.AdapterIdeal.main_arg3) = m ((c.tc : Thread Cert.AdapterIdeal.nD Cert.AdapterIdeal.τ).loc Cert.AdapterIdeal.main_arg3)
      ∧ r.2.mem ((c.tc : Thread Cert.AdapterIdeal.nD Cert.AdapterIdeal.τ).loc Cert.AdapterIdeal.main_arg4) = m ((c.tc : Thread Cert.AdapterIdeal.nD Cert.AdapterIdeal.τ).loc Cert.AdapterIdeal.main_arg4)
      ∧ r.2.mem ((c.tc : Thread Cert.AdapterIdeal.nD Cert.AdapterIdeal.τ).loc Cert.AdapterIdeal.main_arg5) = m ((c.tc : Thread Cert.AdapterIdeal.nD Cert.AdapterIdeal.τ).loc Cert.AdapterIdeal.main_arg5))
      ∧ r.2.sem = fun _ => 0)

def quiescent_AdapterRefIdeal [hAdapterRefIdeal : Cert.AdapterRefIdeal.Facts] : Prop :=
  ∀ (m : (ℓ : Loc Cert.AdapterRefIdeal.nD Cert.AdapterRefIdeal.τ Cert.AdapterRefIdeal.sig) → Buf (Elt Ideal) ℓ) (g : Dev Cert.AdapterRefIdeal.nD → PrngReg), Pre_AdapterRefIdeal m →
    θ_run (Cert.AdapterRefIdeal.defs (F := Ideal)) (onTc (τ := Cert.AdapterRefIdeal.τ) (Cert.AdapterRefIdeal.main (F := Ideal))) ⟨m, fun _ => 0, g⟩ (fun r => (∀ c : Dev Cert.AdapterRefIdeal.nD,
      r.2.mem ((c.tc : Thread Cert.AdapterRefIdeal.nD Cert.AdapterRefIdeal.τ).loc Cert.AdapterRefIdeal.main_arg0) = m ((c.tc : Thread Cert.AdapterRefIdeal.nD Cert.AdapterRefIdeal.τ).loc Cert.AdapterRefIdeal.main_arg0)
      ∧ r.2.mem ((c.tc : Thread Cert.AdapterRefIdeal.nD Cert.AdapterRefIdeal.τ).loc Cert.AdapterRefIdeal.main_arg1) = m ((c.tc : Thread Cert.AdapterRefIdeal.nD Cert.AdapterRefIdeal.τ).loc Cert.AdapterRefIdeal.main_arg1)
      ∧ r.2.mem ((c.tc : Thread Cert.AdapterRefIdeal.nD Cert.AdapterRefIdeal.τ).loc Cert.AdapterRefIdeal.main_arg2) = m ((c.tc : Thread Cert.AdapterRefIdeal.nD Cert.AdapterRefIdeal.τ).loc Cert.AdapterRefIdeal.main_arg2)
      ∧ r.2.mem ((c.tc : Thread Cert.AdapterRefIdeal.nD Cert.AdapterRefIdeal.τ).loc Cert.AdapterRefIdeal.main_arg3) = m ((c.tc : Thread Cert.AdapterRefIdeal.nD Cert.AdapterRefIdeal.τ).loc Cert.AdapterRefIdeal.main_arg3)
      ∧ r.2.mem ((c.tc : Thread Cert.AdapterRefIdeal.nD Cert.AdapterRefIdeal.τ).loc Cert.AdapterRefIdeal.main_arg4) = m ((c.tc : Thread Cert.AdapterRefIdeal.nD Cert.AdapterRefIdeal.τ).loc Cert.AdapterRefIdeal.main_arg4)
      ∧ r.2.mem ((c.tc : Thread Cert.AdapterRefIdeal.nD Cert.AdapterRefIdeal.τ).loc Cert.AdapterRefIdeal.main_arg5) = m ((c.tc : Thread Cert.AdapterRefIdeal.nD Cert.AdapterRefIdeal.τ).loc Cert.AdapterRefIdeal.main_arg5))
      ∧ r.2.sem = fun _ => 0)

def quiescent_AdapterRefIdeal_pre_tame [hAdapterRefIdeal : Cert.AdapterRefIdeal.Facts] [hPre_tame : Cert.Pre_tame.Facts] : Prop :=
  ∀ (m : (ℓ : Loc Cert.AdapterRefIdeal.nD Cert.AdapterRefIdeal.τ Cert.AdapterRefIdeal.sig) → Buf (Elt Ideal) ℓ) (g : Dev Cert.AdapterRefIdeal.nD → PrngReg), Pre_AdapterRefIdeal_tame m →
    θ_run (Cert.AdapterRefIdeal.defs (F := Ideal)) (onTc (τ := Cert.AdapterRefIdeal.τ) (Cert.AdapterRefIdeal.main (F := Ideal))) ⟨m, fun _ => 0, g⟩ (fun r => (∀ c : Dev Cert.AdapterRefIdeal.nD,
      r.2.mem ((c.tc : Thread Cert.AdapterRefIdeal.nD Cert.AdapterRefIdeal.τ).loc Cert.AdapterRefIdeal.main_arg0) = m ((c.tc : Thread Cert.AdapterRefIdeal.nD Cert.AdapterRefIdeal.τ).loc Cert.AdapterRefIdeal.main_arg0)
      ∧ r.2.mem ((c.tc : Thread Cert.AdapterRefIdeal.nD Cert.AdapterRefIdeal.τ).loc Cert.AdapterRefIdeal.main_arg1) = m ((c.tc : Thread Cert.AdapterRefIdeal.nD Cert.AdapterRefIdeal.τ).loc Cert.AdapterRefIdeal.main_arg1)
      ∧ r.2.mem ((c.tc : Thread Cert.AdapterRefIdeal.nD Cert.AdapterRefIdeal.τ).loc Cert.AdapterRefIdeal.main_arg2) = m ((c.tc : Thread Cert.AdapterRefIdeal.nD Cert.AdapterRefIdeal.τ).loc Cert.AdapterRefIdeal.main_arg2)
      ∧ r.2.mem ((c.tc : Thread Cert.AdapterRefIdeal.nD Cert.AdapterRefIdeal.τ).loc Cert.AdapterRefIdeal.main_arg3) = m ((c.tc : Thread Cert.AdapterRefIdeal.nD Cert.AdapterRefIdeal.τ).loc Cert.AdapterRefIdeal.main_arg3)
      ∧ r.2.mem ((c.tc : Thread Cert.AdapterRefIdeal.nD Cert.AdapterRefIdeal.τ).loc Cert.AdapterRefIdeal.main_arg4) = m ((c.tc : Thread Cert.AdapterRefIdeal.nD Cert.AdapterRefIdeal.τ).loc Cert.AdapterRefIdeal.main_arg4)
      ∧ r.2.mem ((c.tc : Thread Cert.AdapterRefIdeal.nD Cert.AdapterRefIdeal.τ).loc Cert.AdapterRefIdeal.main_arg5) = m ((c.tc : Thread Cert.AdapterRefIdeal.nD Cert.AdapterRefIdeal.τ).loc Cert.AdapterRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5))
      ∧ r.2.sem = fun _ => 0)

def preserves_Adapter_AdapterIdeal : Prop :=
  True

def algebraic_AdapterIdeal_AdapterRefIdeal_pre_tame [hAdapterIdeal : Cert.AdapterIdeal.Facts] [hAdapterRefIdeal : Cert.AdapterRefIdeal.Facts] [hPre_tame : Cert.Pre_tame.Facts] : Prop :=
  ∀ (m : (ℓ : Loc Cert.AdapterIdeal.nD Cert.AdapterIdeal.τ Cert.AdapterIdeal.sig) → Buf (Elt Ideal) ℓ) (g : Dev Cert.AdapterIdeal.nD → PrngReg)
    (m' : (ℓ : Loc Cert.AdapterRefIdeal.nD Cert.AdapterRefIdeal.τ Cert.AdapterRefIdeal.sig) → Buf (Elt Ideal) ℓ) (g' : Dev Cert.AdapterRefIdeal.nD → PrngReg), Pre_AdapterIdeal_tame m →
    (∀ c : Dev Cert.AdapterIdeal.nD,
      m' ((c.tc : Thread Cert.AdapterRefIdeal.nD Cert.AdapterRefIdeal.τ).loc Cert.AdapterRefIdeal.main_arg0) = m ((c.tc : Thread Cert.AdapterIdeal.nD Cert.AdapterIdeal.τ).loc Cert.AdapterIdeal.main_arg0)
      ∧ m' ((c.tc : Thread Cert.AdapterRefIdeal.nD Cert.AdapterRefIdeal.τ).loc Cert.AdapterRefIdeal.main_arg1) = m ((c.tc : Thread Cert.AdapterIdeal.nD Cert.AdapterIdeal.τ).loc Cert.AdapterIdeal.main_arg1)
      ∧ m' ((c.tc : Thread Cert.AdapterRefIdeal.nD Cert.AdapterRefIdeal.τ).loc Cert.AdapterRefIdeal.main_arg2) = m ((c.tc : Thread Cert.AdapterIdeal.nD Cert.AdapterIdeal.τ).loc Cert.AdapterIdeal.main_arg2)
      ∧ m' ((c.tc : Thread Cert.AdapterRefIdeal.nD Cert.AdapterRefIdeal.τ).loc Cert.AdapterRefIdeal.main_arg3) = m ((c.tc : Thread Cert.AdapterIdeal.nD Cert.AdapterIdeal.τ).loc Cert.AdapterIdeal.main_arg3)
      ∧ m' ((c.tc : Thread Cert.AdapterRefIdeal.nD Cert.AdapterRefIdeal.τ).loc Cert.AdapterRefIdeal.main_arg4) = m ((c.tc : Thread Cert.AdapterIdeal.nD Cert.AdapterIdeal.τ).loc Cert.AdapterIdeal.main_arg4)
      ∧ m' ((c.tc : Thread Cert.AdapterRefIdeal.nD Cert.AdapterRefIdeal.τ).loc Cert.AdapterRefIdeal.main_arg5) = m ((c.tc : Thread Cert.AdapterIdeal.nD Cert.AdapterIdeal.τ).loc Cert.AdapterIdeal.main_arg5)) →
    ∃ (v0 : (c : Dev Cert.AdapterIdeal.nD) → Buf (Elt Ideal) ((c.tc : Thread Cert.AdapterIdeal.nD Cert.AdapterIdeal.τ).loc Cert.AdapterIdeal.main_v6)) (v1 : (c : Dev Cert.AdapterIdeal.nD) → Buf (Elt Ideal) ((c.tc : Thread Cert.AdapterIdeal.nD Cert.AdapterIdeal.τ).loc Cert.AdapterIdeal.main_v8)) (v2 : (c : Dev Cert.AdapterIdeal.nD) → Buf (Elt Ideal) ((c.tc : Thread Cert.AdapterIdeal.nD Cert.AdapterIdeal.τ).loc Cert.AdapterIdeal.main_v9)) (v3 : (c : Dev Cert.AdapterIdeal.nD) → Buf (Elt Ideal) ((c.tc : Thread Cert.AdapterIdeal.nD Cert.AdapterIdeal.τ).loc Cert.AdapterIdeal.main_v5_0)) (v4 : (c : Dev Cert.AdapterIdeal.nD) → Buf (Elt Ideal) ((c.tc : Thread Cert.AdapterIdeal.nD Cert.AdapterIdeal.τ).loc Cert.AdapterIdeal.main_v11)) (v5 : (c : Dev Cert.AdapterIdeal.nD) → Buf (Elt Ideal) ((c.tc : Thread Cert.AdapterIdeal.nD Cert.AdapterIdeal.τ).loc Cert.AdapterIdeal.main_v5_1)) (v6 : (c : Dev Cert.AdapterIdeal.nD) → Buf (Elt Ideal) ((c.tc : Thread Cert.AdapterIdeal.nD Cert.AdapterIdeal.τ).loc Cert.AdapterIdeal.main_v5_2)),
      θ_run (Cert.AdapterIdeal.defs (F := Ideal)) (onTc (τ := Cert.AdapterIdeal.τ) (Cert.AdapterIdeal.main (F := Ideal))) ⟨m, fun _ => 0, g⟩ (fun r => ∀ c : Dev Cert.AdapterIdeal.nD,
          r.2.mem ((c.tc : Thread Cert.AdapterIdeal.nD Cert.AdapterIdeal.τ).loc Cert.AdapterIdeal.main_v6) = v0 c
          ∧ r.2.mem ((c.tc : Thread Cert.AdapterIdeal.nD Cert.AdapterIdeal.τ).loc Cert.AdapterIdeal.main_v8) = v1 c
          ∧ r.2.mem ((c.tc : Thread Cert.AdapterIdeal.nD Cert.AdapterIdeal.τ).loc Cert.AdapterIdeal.main_v9) = v2 c
          ∧ r.2.mem ((c.tc : Thread Cert.AdapterIdeal.nD Cert.AdapterIdeal.τ).loc Cert.AdapterIdeal.main_v5_0) = v3 c
          ∧ r.2.mem ((c.tc : Thread Cert.AdapterIdeal.nD Cert.AdapterIdeal.τ).loc Cert.AdapterIdeal.main_v11) = v4 c
          ∧ r.2.mem ((c.tc : Thread Cert.AdapterIdeal.nD Cert.AdapterIdeal.τ).loc Cert.AdapterIdeal.main_v5_1) = v5 c
          ∧ r.2.mem ((c.tc : Thread Cert.AdapterIdeal.nD Cert.AdapterIdeal.τ).loc Cert.AdapterIdeal.main_v5_2) = v6 c
          ∧ r.2.mem ((c.tc : Thread Cert.AdapterIdeal.nD Cert.AdapterIdeal.τ).loc Cert.AdapterIdeal.main_arg0) = m ((c.tc : Thread Cert.AdapterIdeal.nD Cert.AdapterIdeal.τ).loc Cert.AdapterIdeal.main_arg0)
          ∧ r.2.mem ((c.tc : Thread Cert.AdapterIdeal.nD Cert.AdapterIdeal.τ).loc Cert.AdapterIdeal.main_arg1) = m ((c.tc : Thread Cert.AdapterIdeal.nD Cert.AdapterIdeal.τ).loc Cert.AdapterIdeal.main_arg1)
          ∧ r.2.mem ((c.tc : Thread Cert.AdapterIdeal.nD Cert.AdapterIdeal.τ).loc Cert.AdapterIdeal.main_arg2) = m ((c.tc : Thread Cert.AdapterIdeal.nD Cert.AdapterIdeal.τ).loc Cert.AdapterIdeal.main_arg2)
          ∧ r.2.mem ((c.tc : Thread Cert.AdapterIdeal.nD Cert.AdapterIdeal.τ).loc Cert.AdapterIdeal.main_arg3) = m ((c.tc : Thread Cert.AdapterIdeal.nD Cert.AdapterIdeal.τ).loc Cert.AdapterIdeal.main_arg3)
          ∧ r.2.mem ((c.tc : Thread Cert.AdapterIdeal.nD Cert.AdapterIdeal.τ).loc Cert.AdapterIdeal.main_arg4) = m ((c.tc : Thread Cert.AdapterIdeal.nD Cert.AdapterIdeal.τ).loc Cert.AdapterIdeal.main_arg4)
          ∧ r.2.mem ((c.tc : Thread Cert.AdapterIdeal.nD Cert.AdapterIdeal.τ).loc Cert.AdapterIdeal.main_arg5) = m ((c.tc : Thread Cert.AdapterIdeal.nD Cert.AdapterIdeal.τ).loc Cert.AdapterIdeal.main_arg5))
      ∧ θ_run (Cert.AdapterRefIdeal.defs (F := Ideal)) (onTc (τ := Cert.AdapterRefIdeal.τ) (Cert.AdapterRefIdeal.main (F := Ideal))) ⟨m', fun _ => 0, g'⟩ (fun r => ∀ c : Dev Cert.AdapterRefIdeal.nD,
          r.2.mem ((c.tc : Thread Cert.AdapterRefIdeal.nD Cert.AdapterRefIdeal.τ).loc Cert.AdapterRefIdeal.main_v58) = v0 c
          ∧ r.2.mem ((c.tc : Thread Cert.AdapterRefIdeal.nD Cert.AdapterRefIdeal.τ).loc Cert.AdapterRefIdeal.main_v46) = v1 c
          ∧ r.2.mem ((c.tc : Thread Cert.AdapterRefIdeal.nD Cert.AdapterRefIdeal.τ).loc Cert.AdapterRefIdeal.main_v33) = v2 c
          ∧ r.2.mem ((c.tc : Thread Cert.AdapterRefIdeal.nD Cert.AdapterRefIdeal.τ).loc Cert.AdapterRefIdeal.main_v67) = v3 c
          ∧ r.2.mem ((c.tc : Thread Cert.AdapterRefIdeal.nD Cert.AdapterRefIdeal.τ).loc Cert.AdapterRefIdeal.main_v15) = v4 c
          ∧ r.2.mem ((c.tc : Thread Cert.AdapterRefIdeal.nD Cert.AdapterRefIdeal.τ).loc Cert.AdapterRefIdeal.main_v66) = v5 c
          ∧ r.2.mem ((c.tc : Thread Cert.AdapterRefIdeal.nD Cert.AdapterRefIdeal.τ).loc Cert.AdapterRefIdeal.main_v64) = v6 c
          ∧ r.2.mem ((c.tc : Thread Cert.AdapterRefIdeal.nD Cert.AdapterRefIdeal.τ).loc Cert.AdapterRefIdeal.main_arg0) = m' ((c.tc : Thread Cert.AdapterRefIdeal.nD Cert.AdapterRefIdeal.τ).loc Cert.AdapterRefIdeal.main_arg0)
          ∧ r.2.mem ((c.tc : Thread Cert.AdapterRefIdeal.nD Cert.AdapterRefIdeal.τ).loc Cert.AdapterRefIdeal.main_arg1) = m' ((c.tc : Thread Cert.AdapterRefIdeal.nD Cert.AdapterRefIdeal.τ).loc Cert.AdapterRefIdeal.main_arg1)
          ∧ r.2.mem ((c.tc : Thread Cert.AdapterRefIdeal.nD Cert.AdapterRefIdeal.τ).loc Cert.AdapterRefIdeal.main_arg2) = m' ((c.tc : Thread Cert.AdapterRefIdeal.nD Cert.AdapterRefIdeal.τ).loc Cert.AdapterRefIdeal.main_arg2)
          ∧ r.2.mem ((c.tc : Thread Cert.AdapterRefIdeal.nD Cert.AdapterRefIdeal.τ).loc Cert.AdapterRefIdeal.main_arg3) = m' ((c.tc : Thread Cert.AdapterRefIdeal.nD Cert.AdapterRefIdeal.τ).loc Cert.AdapterRefIdeal.main_arg3)
          ∧ r.2.mem ((c.tc : Thread Cert.AdapterRefIdeal.nD Cert.AdapterRefIdeal.τ).loc Cert.AdapterRefIdeal.main_arg4) = m' ((c.tc : Thread Cert.AdapterRefIdeal.nD Cert.AdapterRefIdeal.τ).loc Cert.AdapterRefIdeal.main_arg4)
          ∧ r.2.mem ((c.tc : Thread Cert.AdapterRefIdeal.nD Cert.AdapterRefIdeal.τ).loc Cert.AdapterRefIdeal.main_arg5) = m' ((c.tc : Thread Cert.AdapterRefIdeal.nD Cert.AdapterRefIdeal.τ).loc Cert.AdapterRefIdeal.main_arg5))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)) →
    ∃ (v0 : (c : Dev Cert.DxIdeal.nD) → Buf (Elt Ideal) ((c.tc : Thread Cert.DxIdeal.nD Cert.DxIdeal.τ).loc Cert.DxIdeal.main_v4)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v4) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v7) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5))

def Claim : Prop :=
  ∃ (hAdapter : Cert.Adapter.Facts) (hAdapterIdeal : Cert.AdapterIdeal.Facts) (hAdapterRefIdeal : Cert.AdapterRefIdeal.Facts) (hDx : Cert.Dx.Facts) (hDxIdeal : Cert.DxIdeal.Facts) (hDxRefIdeal : Cert.DxRefIdeal.Facts) (hPre_tame : Cert.Pre_tame.Facts),
    quiescent_Adapter (hAdapter := hAdapter)
    ∧ quiescent_AdapterIdeal (hAdapterIdeal := hAdapterIdeal)
    ∧ quiescent_AdapterIdeal_pre_tame (hAdapterIdeal := hAdapterIdeal) (hPre_tame := hPre_tame)
    ∧ quiescent_AdapterRefIdeal (hAdapterRefIdeal := hAdapterRefIdeal)
    ∧ quiescent_AdapterRefIdeal_pre_tame (hAdapterRefIdeal := hAdapterRefIdeal) (hPre_tame := hPre_tame)
    ∧ quiescent_Dx (hDx := hDx)
    ∧ quiescent_DxIdeal (hDxIdeal := hDxIdeal)
    ∧ quiescent_DxRefIdeal (hDxRefIdeal := hDxRefIdeal)
    ∧ preserves_Adapter_AdapterIdeal
    ∧ algebraic_AdapterIdeal_AdapterRefIdeal_pre_tame (hAdapterIdeal := hAdapterIdeal) (hAdapterRefIdeal := hAdapterRefIdeal) (hPre_tame := hPre_tame)
    ∧ preserves_Dx_DxIdeal
    ∧ algebraic_DxIdeal_DxRefIdeal (hDxIdeal := hDxIdeal) (hDxRefIdeal := hDxRefIdeal)
-- ==== Pre_tame.lean ====
abbrev S16384x2560 : Shape := ⟨2, ![16384, 2560]⟩
abbrev S16384x10240 : Shape := ⟨2, ![16384, 10240]⟩
abbrev S10x32x2560 : Shape := ⟨3, ![10, 32, 2560]⟩
abbrev S10x10240x32 : Shape := ⟨3, ![10, 10240, 32]⟩
abbrev S16384x2 : Shape := ⟨2, ![16384, 2]⟩
abbrev S_ : Shape := ⟨0, ![]⟩
abbrev S16384 : Shape := ⟨1, ![16384]⟩
abbrev S16384x1 : Shape := ⟨2, ![16384, 1]⟩

class Facts : Prop where
  bitsLt_bf16_f32 : FTy.bits .bf16 < FTy.bits .f32
  reducesTo_S16384x10240_S16384_d1 : S16384x10240.ReducesTo [1] S16384
  h_S_ : 0 < S_.numel
  bcast_S_S16384 : S_.BroadcastsInDim S16384 (![] : Fin 0 → Fin S16384.rank)
  slices_S16384x2_S16384x1_0_0 : S16384x2.Slices ![0, 0] S16384x1
  shapeCasts_S16384x1_S16384 : S16384x1.ShapeCasts S16384
  slices_S16384x2_S16384x1_0_1 : S16384x2.Slices ![0, 1] S16384x1
  reducesTo_S16384_S_d0 : S16384.ReducesTo [0] S_
  bcast_S_S16384x10240 : S_.BroadcastsInDim S16384x10240 (![] : Fin 0 → Fin S16384x10240.rank)
  reducesTo_S16384x10240_S_d0_1 : S16384x10240.ReducesTo [0, 1] S_

variable [Facts]

def fn_part1 {F : FTy → Type} [FloatOps F] (main_v4 : FVec F S16384 .f32) (main_v14 : IVec S_ 1) (main_v16 : IVec S16384 1) (main_cst_4 : FVec F S_ .f32) : IVec S_ 1 :=
  let main_v17 : FVec F S16384 .f32 := broadcastInDim S16384 ![] bcast_S_S16384 main_cst_4
  let main_v18 : IVec S16384 1 := cmpf .oge main_v4 main_v17
  let main_v19 : IVec S16384 1 := ori main_v16 main_v18
  let main_c_5 : IVec S_ 1 := constantI S_ 1 1#1
  let main_v20 : IVec S_ 1 := (fun x v => Host.reduce IntOp.andi x v reducesTo_S16384_S_d0 h_S_) main_v19 main_c_5
  let main_v21 : IVec S_ 1 := andi main_v14 main_v20
  main_v21

def fn {F : FTy → Type} [FloatOps F] (main_arg0 : FVec F S16384x2560 .bf16) (main_arg1 : FVec F S16384x10240 .bf16) (main_arg2 : FVec F S10x32x2560 .bf16) (main_arg3 : FVec F S10x10240x32 .bf16) (main_arg4 : IVec S16384x2 32) (main_arg5 : FVec F S16384x2 .f32) : IVec S_ 1 :=
  let main_v0 : FVec F S16384x10240 .f32 := (extf .f32 · bitsLt_bf16_f32) main_arg1
  let main_v1 : FVec F S16384x10240 .f32 := Host.absf main_v0
  let main_cst : FVec F S_ .f32 := constant S_ .f32 0xFF800000#32
  let main_v2 : FVec F S16384 .f32 := (fun x v => Host.reduce FloatOps.maximumf x v reducesTo_S16384x10240_S16384_d1 h_S_) main_v1 main_cst
  let main_cst_0 : FVec F S_ .f32 := constant S_ .f32 0x37924925#32
  let main_v3 : FVec F S16384 .f32 := broadcastInDim S16384 ![] bcast_S_S16384 main_cst_0
  let main_v4 : FVec F S16384 .f32 := mulf main_v2 main_v3
  let main_v5 : IVec S16384x1 32 := (extractStridedSlice S16384x1 ![0, 0] · slices_S16384x2_S16384x1_0_0) main_arg4
  let main_v6 : IVec S16384 32 := shapeCast S16384 main_v5 shapeCasts_S16384x1_S16384
  let main_v7 : IVec S16384x1 32 := (extractStridedSlice S16384x1 ![0, 1] · slices_S16384x2_S16384x1_0_1) main_arg4
  let main_v8 : IVec S16384 32 := shapeCast S16384 main_v7 shapeCasts_S16384x1_S16384
  let main_v9 : IVec S16384 1 := cmpi .ne main_v6 main_v8
  let main_c : IVec S_ 1 := constantI S_ 1 1#1
  let main_v10 : IVec S_ 1 := (fun x v => Host.reduce IntOp.andi x v reducesTo_S16384_S_d0 h_S_) main_v9 main_c
  let main_cst_1 : FVec F S_ .f32 := constant S_ .f32 0x7F7F0000#32
  let main_v11 : FVec F S16384x10240 .f32 := broadcastInDim S16384x10240 ![] bcast_S_S16384x10240 main_cst_1
  let main_v12 : IVec S16384x10240 1 := cmpf .ole main_v1 main_v11
  let main_c_2 : IVec S_ 1 := constantI S_ 1 1#1
  let main_v13 : IVec S_ 1 := (fun x v => Host.reduce IntOp.andi x v reducesTo_S16384x10240_S_d0_1 h_S_) main_v12 main_c_2
  let main_v14 : IVec S_ 1 := andi main_v10 main_v13
  let main_cst_3 : FVec F S_ .f32 := constant S_ .f32 0x00000000#32
  let main_v15 : FVec F S16384 .f32 := broadcastInDim S16384 ![] bcast_S_S16384 main_cst_3
  let main_v16 : IVec S16384 1 := cmpf .oeq main_v4 main_v15
  let main_cst_4 : FVec F S_ .f32 := constant S_ .f32 0x00800000#32
  fn_part1 (F := F) main_v4 main_v14 main_v16 main_cst_4
-- ==== Adapter.lean ====
abbrev S16384x2560 : Shape := ⟨2, ![16384, 2560]⟩
abbrev S16384x10240 : Shape := ⟨2, ![16384, 10240]⟩
abbrev S10x32x2560 : Shape := ⟨3, ![10, 32, 2560]⟩
abbrev S10x10240x32 : Shape := ⟨3, ![10, 10240, 32]⟩
abbrev S16384x2 : Shape := ⟨2, ![16384, 2]⟩
abbrev S320x2560 : Shape := ⟨2, ![320, 2560]⟩
abbrev S10x32x10240 : Shape := ⟨3, ![10, 32, 10240]⟩
abbrev S320x10240 : Shape := ⟨2, ![320, 10240]⟩
abbrev S2x16384 : Shape := ⟨2, ![2, 16384]⟩
abbrev S16384x128 : Shape := ⟨2, ![16384, 128]⟩
abbrev S16384x320 : Shape := ⟨2, ![16384, 320]⟩
abbrev S256x2560 : Shape := ⟨2, ![256, 2560]⟩
abbrev S256x10240 : Shape := ⟨2, ![256, 10240]⟩
abbrev S2x256 : Shape := ⟨2, ![2, 256]⟩
abbrev S256x2 : Shape := ⟨2, ![256, 2]⟩
abbrev S256x128 : Shape := ⟨2, ![256, 128]⟩
abbrev S256x320 : Shape := ⟨2, ![256, 320]⟩
abbrev S320x256 : Shape := ⟨2, ![320, 256]⟩
abbrev S1x256 : Shape := ⟨2, ![1, 256]⟩
abbrev S320x512 : Shape := ⟨2, ![320, 512]⟩
abbrev S256 : Shape := ⟨1, ![256]⟩
abbrev S256x1 : Shape := ⟨2, ![256, 1]⟩
abbrev S256x1024 : Shape := ⟨2, ![256, 1024]⟩
abbrev S512x1024 : Shape := ⟨2, ![512, 1024]⟩
abbrev S320x1024 : Shape := ⟨2, ![320, 1024]⟩
abbrev S16384x1 : Shape := ⟨2, ![16384, 1]⟩
abbrev S16384 : Shape := ⟨1, ![16384]⟩

abbrev nBuf : Space → Nat
  | .hbm => 23
  | .vmem => 22
  | .smem => 0
  | _ => 0

abbrev bufTy : (tb : Table) → Fin (tcTables nBuf tb) → BufTy
  | .hbm, ⟨0, _⟩ => ⟨S16384x2560, .bf16⟩
  | .hbm, ⟨1, _⟩ => ⟨S16384x10240, .bf16⟩
  | .hbm, ⟨2, _⟩ => ⟨S10x32x2560, .bf16⟩
  | .hbm, ⟨3, _⟩ => ⟨S10x10240x32, .bf16⟩
  | .hbm, ⟨4, _⟩ => ⟨S16384x2, .i32⟩
  | .hbm, ⟨5, _⟩ => ⟨S16384x2, .f32⟩
  | .hbm, ⟨6, _⟩ => ⟨S320x2560, .bf16⟩
  | .hbm, ⟨7, _⟩ => ⟨S10x32x10240, .bf16⟩
  | .hbm, ⟨8, _⟩ => ⟨S320x10240, .bf16⟩
  | .hbm, ⟨9, _⟩ => ⟨S2x16384, .i32⟩
  | .hbm, ⟨10, _⟩ => ⟨S2x16384, .f32⟩
  | .hbm, ⟨11, _⟩ => ⟨S16384x10240, .fp8e5m2⟩
  | .hbm, ⟨12, _⟩ => ⟨S16384x128, .f32⟩
  | .hbm, ⟨13, _⟩ => ⟨S16384x320, .bf16⟩
  | .hbm, ⟨14, _⟩ => ⟨S2x16384, .f32⟩
  | .hbm, ⟨15, _⟩ => ⟨S320x2560, .f32⟩
  | .hbm, ⟨16, _⟩ => ⟨S320x10240, .f32⟩
  | .hbm, ⟨17, _⟩ => ⟨S10x32x2560, .f32⟩
  | .hbm, ⟨18, _⟩ => ⟨S10x32x10240, .f32⟩
  | .hbm, ⟨19, _⟩ => ⟨S10x10240x32, .f32⟩
  | .hbm, ⟨20, _⟩ => ⟨S16384x2, .f32⟩
  | .hbm, ⟨21, _⟩ => ⟨S16384x1, .f32⟩
  | .hbm, ⟨22, _⟩ => ⟨S16384, .f32⟩
  | .local _ .vmem, ⟨0, _⟩ => ⟨S256x2560, .bf16⟩
  | .local _ .vmem, ⟨1, _⟩ => ⟨S256x2560, .bf16⟩
  | .local _ .vmem, ⟨2, _⟩ => ⟨S256x10240, .bf16⟩
  | .local _ .vmem, ⟨3, _⟩ => ⟨S256x10240, .bf16⟩
  | .local _ .vmem, ⟨4, _⟩ => ⟨S320x2560, .bf16⟩
  | .local _ .vmem, ⟨5, _⟩ => ⟨S320x10240, .bf16⟩
  | .local _ .vmem, ⟨6, _⟩ => ⟨S2x256, .i32⟩
  | .local _ .vmem, ⟨7, _⟩ => ⟨S2x256, .i32⟩
  | .local _ .vmem, ⟨8, _⟩ => ⟨S2x256, .f32⟩
  | .local _ .vmem, ⟨9, _⟩ => ⟨S2x256, .f32⟩
  | .local _ .vmem, ⟨10, _⟩ => ⟨S256x2, .f32⟩
  | .local _ .vmem, ⟨11, _⟩ => ⟨S256x2, .f32⟩
  | .local _ .vmem, ⟨12, _⟩ => ⟨S256x10240, .fp8e5m2⟩
  | .local _ .vmem, ⟨13, _⟩ => ⟨S256x10240, .fp8e5m2⟩
  | .local _ .vmem, ⟨14, _⟩ => ⟨S256x128, .f32⟩
  | .local _ .vmem, ⟨15, _⟩ => ⟨S256x128, .f32⟩
  | .local _ .vmem, ⟨16, _⟩ => ⟨S256x320, .bf16⟩
  | .local _ .vmem, ⟨17, _⟩ => ⟨S256x320, .bf16⟩
  | .local _ .vmem, ⟨18, _⟩ => ⟨S2x256, .f32⟩
  | .local _ .vmem, ⟨19, _⟩ => ⟨S2x256, .f32⟩
  | .local _ .vmem, ⟨20, _⟩ => ⟨S320x2560, .f32⟩
  | .local _ .vmem, ⟨21, _⟩ => ⟨S320x10240, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S320x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S320x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x10240 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x320 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S320x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S320x10240 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AdapterRefIdeal.lean ====
abbrev S16384x2560 : Shape := ⟨2, ![16384, 2560]⟩
abbrev S16384x10240 : Shape := ⟨2, ![16384, 10240]⟩
abbrev S10x32x2560 : Shape := ⟨3, ![10, 32, 2560]⟩
abbrev S10x10240x32 : Shape := ⟨3, ![10, 10240, 32]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S10 : Shape := ⟨1, ![10]⟩
abbrev S1x1x10 : Shape := ⟨3, ![1, 1, 10]⟩
abbrev S16384x2x10 : Shape := ⟨3, ![16384, 2, 10]⟩
abbrev S16384x10x32 : Shape := ⟨3, ![16384, 10, 32]⟩
abbrev S16384x2x10x1 : Shape := ⟨4, ![16384, 2, 10, 1]⟩
abbrev S16384x1x10x32 : Shape := ⟨4, ![16384, 1, 10, 32]⟩
abbrev S16384x2x10x32 : Shape := ⟨4, ![16384, 2, 10, 32]⟩
abbrev S16384x1x10240 : Shape := ⟨3, ![16384, 1, 10240]⟩
abbrev S16384x2x10240 : Shape := ⟨3, ![16384, 2, 10240]⟩
abbrev S10x32x10240 : Shape := ⟨3, ![10, 32, 10240]⟩
abbrev S16384x2x1x1 : Shape := ⟨4, ![16384, 2, 1, 1]⟩
abbrev S16384x320 : Shape := ⟨2, ![16384, 320]⟩
abbrev S16384x128 : Shape := ⟨2, ![16384, 128]⟩

abbrev nBuf : Space → Nat
  | .hbm => 103
  | .vmem => 3
  | .smem => 0
  | _ => 0

abbrev bufTy : (tb : Table) → Fin (tcTables nBuf tb) → BufTy
  | .hbm, ⟨0, _⟩ => ⟨S16384x2560, .bf16⟩
  | .hbm, ⟨1, _⟩ => ⟨S16384x10240, .bf16⟩
  | .hbm, ⟨2, _⟩ => ⟨S10x32x2560, .bf16⟩
  | .hbm, ⟨3, _⟩ => ⟨S10x10240x32, .bf16⟩
  | .hbm, ⟨4, _⟩ => ⟨S16384x2, .i32⟩
  | .hbm, ⟨5, _⟩ => ⟨S16384x2, .f32⟩
  | .hbm, ⟨6, _⟩ => ⟨S16384x10240, .f32⟩
  | .hbm, ⟨7, _⟩ => ⟨S16384x10240, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .i1⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S16384x1, .f32⟩
  | .hbm, ⟨33, _⟩ => ⟨S16384x2x1, .i32⟩
  | .hbm, ⟨34, _⟩ => ⟨S10, .i32⟩
  | .hbm, ⟨35, _⟩ => ⟨S1x1x10, .i32⟩
  | .hbm, ⟨36, _⟩ => ⟨S16384x2x10, .i32⟩
  | .hbm, ⟨37, _⟩ => ⟨S16384x2x10, .i32⟩
  | .hbm, ⟨38, _⟩ => ⟨S16384x2x10, .i1⟩
  | .hbm, ⟨39, _⟩ => ⟨S16384x10x32, .f32⟩
  | .hbm, ⟨40, _⟩ => ⟨S16384x10x32, .f32⟩
  | .hbm, ⟨41, _⟩ => ⟨S16384x2x10x1, .i1⟩
  | .hbm, ⟨42, _⟩ => ⟨S16384x10x32, .f32⟩
  | .hbm, ⟨43, _⟩ => ⟨S16384x1x10x32, .f32⟩
  | .hbm, ⟨44, _⟩ => ⟨S_, .f32⟩
  | .hbm, ⟨45, _⟩ => ⟨S_, .f32⟩
  | .hbm, ⟨46, _⟩ => ⟨S16384x2x10x32, .i1⟩
  | .hbm, ⟨47, _⟩ => ⟨S16384x2x10x32, .f32⟩
  | .hbm, ⟨48, _⟩ => ⟨S16384x2x10x32, .f32⟩
  | .hbm, ⟨49, _⟩ => ⟨S16384x2x10x32, .f32⟩
  | .hbm, ⟨50, _⟩ => ⟨S_, .f32⟩
  | .hbm, ⟨51, _⟩ => ⟨S16384x2, .f32⟩
  | .hbm, ⟨52, _⟩ => ⟨S_, .f32⟩
  | .hbm, ⟨53, _⟩ => ⟨S16384x2, .f32⟩
  | .hbm, ⟨54, _⟩ => ⟨S16384x2, .f32⟩
  | .hbm, ⟨55, _⟩ => ⟨S16384x2x1, .f32⟩
  | .hbm, ⟨56, _⟩ => ⟨S16384x1x10240, .f32⟩
  | .hbm, ⟨57, _⟩ => ⟨S16384x2x10240, .f32⟩
  | .hbm, ⟨58, _⟩ => ⟨S16384x2x10240, .f32⟩
  | .hbm, ⟨59, _⟩ => ⟨S16384x2x10240, .f32⟩
  | .hbm, ⟨60, _⟩ => ⟨S16384x2x10240, .bf16⟩
  | .hbm, ⟨61, _⟩ => ⟨S16384x10x32, .bf16⟩
  | .hbm, ⟨62, _⟩ => ⟨S16384x1x10x32, .bf16⟩
  | .hbm, ⟨63, _⟩ => ⟨S_, .f32⟩
  | .hbm, ⟨64, _⟩ => ⟨S_, .bf16⟩
  | .hbm, ⟨65, _⟩ => ⟨S16384x2x10x32, .i1⟩
  | .hbm, ⟨66, _⟩ => ⟨S16384x2x10x32, .bf16⟩
  | .hbm, ⟨67, _⟩ => ⟨S16384x2x10x32, .bf16⟩
  | .hbm, ⟨68, _⟩ => ⟨S16384x2x10x32, .bf16⟩
  | .hbm, ⟨69, _⟩ => ⟨S10x32x10240, .f32⟩
  | .hbm, ⟨70, _⟩ => ⟨S10x10240x32, .f32⟩
  | .hbm, ⟨71, _⟩ => ⟨S_, .f32⟩
  | .hbm, ⟨72, _⟩ => ⟨S10x10240x32, .f32⟩
  | .hbm, ⟨73, _⟩ => ⟨S10x10240x32, .f32⟩
  | .hbm, ⟨74, _⟩ => ⟨S16384x2x1x1, .f32⟩
  | .hbm, ⟨75, _⟩ => ⟨S16384x1x10x32, .f32⟩
  | .hbm, ⟨76, _⟩ => ⟨S16384x2x10x32, .f32⟩
  | .hbm, ⟨77, _⟩ => ⟨S16384x2x10x32, .f32⟩
  | .hbm, ⟨78, _⟩ => ⟨S16384x2x10x32, .f32⟩
  | .hbm, ⟨79, _⟩ => ⟨S16384x2x10x32, .bf16⟩
  | .hbm, ⟨80, _⟩ => ⟨S_, .f32⟩
  | .hbm, ⟨81, _⟩ => ⟨S_, .bf16⟩
  | .hbm, ⟨82, _⟩ => ⟨S16384x2x10x32, .i1⟩
  | .hbm, ⟨83, _⟩ => ⟨S16384x2x10x32, .bf16⟩
  | .hbm, ⟨84, _⟩ => ⟨S16384x2x10x32, .bf16⟩
  | .hbm, ⟨85, _⟩ => ⟨S16384x2x10x32, .f32⟩
  | .hbm, ⟨86, _⟩ => ⟨S_, .f32⟩
  | .hbm, ⟨87, _⟩ => ⟨S16384x10x32, .f32⟩
  | .hbm, ⟨88, _⟩ => ⟨S10x32x2560, .f32⟩
  | .hbm, ⟨89, _⟩ => ⟨S_, .f32⟩
  | .hbm, ⟨90, _⟩ => ⟨S10x32x2560, .f32⟩
  | .hbm, ⟨91, _⟩ => ⟨S10x32x2560, .f32⟩
  | .hbm, ⟨92, _⟩ => ⟨S16384x2x10x32, .f32⟩
  | .hbm, ⟨93, _⟩ => ⟨S_, .f32⟩
  | .hbm, ⟨94, _⟩ => ⟨S16384x10x32, .f32⟩
  | .hbm, ⟨95, _⟩ => ⟨S_, .f32⟩
  | .hbm, ⟨96, _⟩ => ⟨S16384x10x32, .f32⟩
  | .hbm, ⟨97, _⟩ => ⟨S16384x10x32, .f32⟩
  | .hbm, ⟨98, _⟩ => ⟨S16384x10x32, .bf16⟩
  | .hbm, ⟨99, _⟩ => ⟨S16384x320, .bf16⟩
  | .hbm, ⟨100, _⟩ => ⟨S16384x1, .f32⟩
  | .hbm, ⟨101, _⟩ => ⟨S16384x128, .f32⟩
  | .hbm, ⟨102, _⟩ => ⟨S16384x10240, .fp8e5m2⟩
  | .local _ .vmem, ⟨0, _⟩ => ⟨S16384x10240, .bf16⟩
  | .local _ .vmem, ⟨1, _⟩ => ⟨S16384x1, .f32⟩
  | .local _ .vmem, ⟨2, _⟩ => ⟨S16384x10240, .fp8e5m2⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v53 : Ref sig .tc := ⟨.hbm, 84, rfl⟩
abbrev main_v54 : Ref sig .tc := ⟨.hbm, 85, rfl⟩
abbrev main_cst_11 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16384x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x10240 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Dx.lean ====
abbrev S16384x10240 : Shape := ⟨2, ![16384, 10240]⟩
abbrev S16384x128 : Shape := ⟨2, ![16384, 128]⟩
abbrev S16384x320 : Shape := ⟨2, ![16384, 320]⟩
abbrev S2560x10240 : Shape := ⟨2, ![2560, 10240]⟩
abbrev S20x80 : Shape := ⟨2, ![20, 80]⟩
abbrev S10x32x2560 : Shape := ⟨3, ![10, 32, 2560]⟩
abbrev S320x2560 : Shape := ⟨2, ![320, 2560]⟩
abbrev S20x80x128 : Shape := ⟨3, ![20, 80, 128]⟩
abbrev S20x10240 : Shape := ⟨2, ![20, 10240]⟩
abbrev S2x10x10240 : Shape := ⟨3, ![2, 10, 10240]⟩
abbrev S16384x2560 : Shape := ⟨2, ![16384, 2560]⟩
abbrev S512x10240 : Shape := ⟨2, ![512, 10240]⟩
abbrev S512x128 : Shape := ⟨2, ![512, 128]⟩
abbrev S512x320 : Shape := ⟨2, ![512, 320]⟩
abbrev S1280x10240 : Shape := ⟨2, ![1280, 10240]⟩
abbrev S1x10x10240 : Shape := ⟨3, ![1, 10, 10240]⟩
abbrev S320x1280 : Shape := ⟨2, ![320, 1280]⟩
abbrev S512x1280 : Shape := ⟨2, ![512, 1280]⟩
abbrev S1x1x128 : Shape := ⟨3, ![1, 1, 128]⟩
abbrev S1x128 : Shape := ⟨2, ![1, 128]⟩
abbrev S128x128 : Shape := ⟨2, ![128, 128]⟩
abbrev S512x2048 : Shape := ⟨2, ![512, 2048]⟩
abbrev S1280x2048 : Shape := ⟨2, ![1280, 2048]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S16384x10240, .fp8e5m2⟩
  | .hbm, ⟨1, _⟩ => ⟨S16384x128, .f32⟩
  | .hbm, ⟨2, _⟩ => ⟨S16384x320, .bf16⟩
  | .hbm, ⟨3, _⟩ => ⟨S2560x10240, .fp8e4m3⟩
  | .hbm, ⟨4, _⟩ => ⟨S20x80, .f32⟩
  | .hbm, ⟨5, _⟩ => ⟨S10x32x2560, .bf16⟩
  | .hbm, ⟨6, _⟩ => ⟨S320x2560, .bf16⟩
  | .hbm, ⟨7, _⟩ => ⟨S20x80x128, .f32⟩
  | .hbm, ⟨8, _⟩ => ⟨S20x10240, .f32⟩
  | .hbm, ⟨9, _⟩ => ⟨S2x10x10240, .f32⟩
  | .hbm, ⟨10, _⟩ => ⟨S16384x2560, .bf16⟩
  | .local _ .vmem, ⟨0, _⟩ => ⟨S512x10240, .fp8e5m2⟩
  | .local _ .vmem, ⟨1, _⟩ => ⟨S512x10240, .fp8e5m2⟩
  | .local _ .vmem, ⟨2, _⟩ => ⟨S512x128, .f32⟩
  | .local _ .vmem, ⟨3, _⟩ => ⟨S512x128, .f32⟩
  | .local _ .vmem, ⟨4, _⟩ => ⟨S512x320, .bf16⟩
  | .local _ .vmem, ⟨5, _⟩ => ⟨S512x320, .bf16⟩
  | .local _ .vmem, ⟨6, _⟩ => ⟨S1280x10240, .fp8e4m3⟩
  | .local _ .vmem, ⟨7, _⟩ => ⟨S1x10x10240, .f32⟩
  | .local _ .vmem, ⟨8, _⟩ => ⟨S320x1280, .bf16⟩
  | .local _ .vmem, ⟨9, _⟩ => ⟨S320x1280, .bf16⟩
  | .local _ .vmem, ⟨10, _⟩ => ⟨S512x1280, .bf16⟩
  | .local _ .vmem, ⟨11, _⟩ => ⟨S512x1280, .bf16⟩
  | .local _ .vmem, ⟨12, _⟩ => ⟨S1280x10240, .bf16⟩
  | .local _ .vmem, ⟨13, _⟩ => ⟨S512x1280, .f32⟩
  | _, _ => ⟨S16384x10240, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x10240 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x320 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1280x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x10x10240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S320x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1280 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DxRefIdeal.lean ====
abbrev S16384x10240 : Shape := ⟨2, ![16384, 10240]⟩
abbrev S16384x128 : Shape := ⟨2, ![16384, 128]⟩
abbrev S16384x320 : Shape := ⟨2, ![16384, 320]⟩
abbrev S2560x10240 : Shape := ⟨2, ![2560, 10240]⟩
abbrev S20x80 : Shape := ⟨2, ![20, 80]⟩
abbrev S10x32x2560 : Shape := ⟨3, ![10, 32, 2560]⟩
abbrev S16384x10x32 : Shape := ⟨3, ![16384, 10, 32]⟩
abbrev S16384x2560 : Shape := ⟨2, ![16384, 2560]⟩
abbrev S20x128x80 : Shape := ⟨3, ![20, 128, 80]⟩
abbrev S2560x80 : Shape := ⟨2, ![2560, 80]⟩
abbrev S2560x80x128 : Shape := ⟨3, ![2560, 80, 128]⟩
abbrev S16384x1 : Shape := ⟨2, ![16384, 1]⟩

abbrev nBuf : Space → Nat
  | .hbm => 14
  | .vmem => 6
  | .smem => 0
  | _ => 0

abbrev bufTy : (tb : Table) → Fin (tcTables nBuf tb) → BufTy
  | .hbm, ⟨0, _⟩ => ⟨S16384x10240, .fp8e5m2⟩
  | .hbm, ⟨1, _⟩ => ⟨S16384x128, .f32⟩
  | .hbm, ⟨2, _⟩ => ⟨S16384x320, .bf16⟩
  | .hbm, ⟨3, _⟩ => ⟨S2560x10240, .fp8e4m3⟩
  | .hbm, ⟨4, _⟩ => ⟨S20x80, .f32⟩
  | .hbm, ⟨5, _⟩ => ⟨S10x32x2560, .bf16⟩
  | .hbm, ⟨6, _⟩ => ⟨S16384x10x32, .bf16⟩
  | .hbm, ⟨7, _⟩ => ⟨S16384x2560, .f32⟩
  | .hbm, ⟨8, _⟩ => ⟨S20x80, .bf16⟩
  | .hbm, ⟨9, _⟩ => ⟨S20x128x80, .bf16⟩
  | .hbm, ⟨10, _⟩ => ⟨S2560x80, .bf16⟩
  | .hbm, ⟨11, _⟩ => ⟨S2560x80x128, .bf16⟩
  | .hbm, ⟨12, _⟩ => ⟨S2560x10240, .bf16⟩
  | .hbm, ⟨13, _⟩ => ⟨S16384x2560, .bf16⟩
  | .local _ .vmem, ⟨0, _⟩ => ⟨S16384x10240, .fp8e5m2⟩
  | .local _ .vmem, ⟨1, _⟩ => ⟨S16384x128, .f32⟩
  | .local _ .vmem, ⟨2, _⟩ => ⟨S2560x10240, .fp8e4m3⟩
  | .local _ .vmem, ⟨3, _⟩ => ⟨S2560x10240, .bf16⟩
  | .local _ .vmem, ⟨4, _⟩ => ⟨S16384x2560, .f32⟩
  | .local _ .vmem, ⟨5, _⟩ => ⟨S16384x2560, .bf16⟩
  | _, _ => ⟨S16384x10240, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x10240 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x10240 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.AdExp.lean ====
/-
  The power of two of the quantiser, over the reals. The kernel finds the exponent field of `q` by bisection: the largest `n` whose
  word `n * 2^23`, read as a float, is at most `q`; the reference takes the floor of a quotient of logarithms. For `q` zero or at
  least the least normal float, and below `2^125`, both give the same power of two, and so the same scale and reciprocal.
-/
module

public import Idealize.ShloMosaic.Lib.Pipeline.ValueKit

@[expose] public section

noncomputable section

namespace Cert.AdSpec

open Idealize.ShloMosaic

/-- The float whose word is `w * 2^23`: exponent field `w`, no significand bits. -/
def word (w : BitVec 32) : EReal := Ideal.ofBits .f32 (IntOp.shli .vector w 23#32)

/-- One step of the bisection: `w + b` if the float of exponent field `w + b` is at most `q`, else `w`. -/
def step (q : EReal) (w b : BitVec 32) : BitVec 32 := if word (IntOp.addi w b) ≤ q then IntOp.addi w b else w

/-- The exponent field of `q`, bit by bit. -/
def field (q : EReal) : BitVec 32 :=
  step q (step q (step q (step q (step q (step q (step q (step q 0#32 128#32) 64#32) 32#32) 16#32) 8#32) 4#32) 2#32) 1#32

/-- The kernel's exponent: that of the least power of two above `q`, and zero at zero. -/
def expo (q : EReal) : BitVec 32 := if field q = 0#32 then 0#32 else IntOp.subi (field q) 126#32

/-- The reference's exponent. -/
def expoRef (q : EReal) : EReal :=
  if q = 0 then 0 else Ideal.liftRound Int.floor (Ideal.div (Ideal.log q) (Ideal.log ((2 : ℝ) : EReal))) + 1

theorem word_bits : ∀ n : Fin 256, (IntOp.shli .vector (BitVec.ofNat 32 n.val) 23#32).extractLsb' (8 + 23) 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

/-- The float of exponent field `n`: zero for 0, infinite for 255, and `2^(n - 127)` between. -/
theorem word_nat (n : ℕ) (h : n < 256) : word (BitVec.ofNat 32 n)
    = if n = 255 then ⊤ else if n = 0 then 0 else (((2 : ℝ) ^ ((n : ℤ) - 127) : ℝ) : EReal) := by
  obtain ⟨h1, h2, h3⟩ := word_bits ⟨n, h⟩
  simp only at h1 h2 h3
  show Ideal.ieee 8 23 _ = _
  unfold Ideal.ieee
  rw [h1, h2, h3]
  simp only [show (0#1 == 1#1) = false from rfl]
  by_cases h255 : n = 255
  · simp [h255]
  · by_cases h0 : n = 0
    · simp [h0]
    · have e : (2 : ℝ) ^ ((n : ℤ) - 127) = 1 * ((2 ^ 23 + 0 : ℕ) : ℝ) * (2 : ℝ) ^ ((n : ℤ) - (2 ^ (8 - 1) - 1) - (23 : ℕ)) := by
        have : ((n : ℤ) - 127) = 23 + ((n : ℤ) - (2 ^ (8 - 1) - 1) - (23 : ℕ)) := by norm_num
        rw [this, zpow_add₀ (by norm_num)]
        norm_num
      have h255' : ¬ n = 2 ^ 8 - 1 := by norm_num; exact h255
      simp only [h255, h255', h0, if_false, Bool.false_eq_true, e]

/-- Comparing `q` with the floats of the exponent fields amounts to comparing the fields with some `N`. -/
def IsField (q : EReal) (N : ℕ) : Prop := ∀ n, n < 256 → (word (BitVec.ofNat 32 n) ≤ q ↔ n ≤ N)

/-- One step halves the interval that holds the field. -/
theorem step_inv {q : EReal} {N : ℕ} (hq : IsField q N) (n b : ℕ) (hb : 0 < b) (hn : n ≤ N) (hN : N < n + 2 * b) (h : n + 2 * b ≤ 256) :
    ∃ n', step q (BitVec.ofNat 32 n) (BitVec.ofNat 32 b) = BitVec.ofNat 32 n' ∧ n' ≤ N ∧ N < n' + b ∧ n' + b ≤ 256 := by
  have e : IntOp.addi (BitVec.ofNat 32 n) (BitVec.ofNat 32 b) = BitVec.ofNat 32 (n + b) := (BitVec.ofNat_add n b).symm
  unfold step
  rw [e]
  by_cases hc : n + b ≤ N
  · exact ⟨n + b, by rw [if_pos ((hq _ (by omega)).mpr hc)], hc, by omega, by omega⟩
  · exact ⟨n, by rw [if_neg (fun h' => hc ((hq _ (by omega)).mp h'))], hn, by omega, by omega⟩

/-- The bisection finds `N`. -/
theorem field_eq {q : EReal} {N : ℕ} (hq : IsField q N) (hN : N < 256) : field q = BitVec.ofNat 32 N := by
  obtain ⟨n1, e1, a1, b1, c1⟩ := step_inv hq 0 128 (by omega) (by omega) (by omega) (by omega)
  obtain ⟨n2, e2, a2, b2, c2⟩ := step_inv hq n1 64 (by omega) a1 (by omega) (by omega)
  obtain ⟨n3, e3, a3, b3, c3⟩ := step_inv hq n2 32 (by omega) a2 (by omega) (by omega)
  obtain ⟨n4, e4, a4, b4, c4⟩ := step_inv hq n3 16 (by omega) a3 (by omega) (by omega)
  obtain ⟨n5, e5, a5, b5, c5⟩ := step_inv hq n4 8 (by omega) a4 (by omega) (by omega)
  obtain ⟨n6, e6, a6, b6, c6⟩ := step_inv hq n5 4 (by omega) a5 (by omega) (by omega)
  obtain ⟨n7, e7, a7, b7, c7⟩ := step_inv hq n6 2 (by omega) a6 (by omega) (by omega)
  obtain ⟨n8, e8, a8, b8, c8⟩ := step_inv hq n7 1 (by omega) a7 (by omega) (by omega)
  have : n8 = N := by omega
  unfold field
  rw [e1, e2, e3, e4, e5, e6, e7, e8, this]

/-- Zero has field 0. -/
theorem isField_zero : IsField ((0 : ℝ) : EReal) 0 := by
  intro n hn
  rw [word_nat n hn]
  by_cases h255 : n = 255
  · simp [h255]
  · by_cases h0 : n = 0
    · simp [h0]
    · rw [if_neg h255, if_neg h0]
      have : (0 : ℝ) < (2 : ℝ) ^ ((n : ℤ) - 127) := by positivity
      constructor
      · intro h
        have := EReal.coe_le_coe_iff.mp h
        linarith
      · omega

/-- A normal `q` has the field of its binary logarithm. -/
theorem isField_log {q : ℝ} {N : ℕ} (h1 : (2 : ℝ) ^ ((N : ℤ) - 127) ≤ q) (h2 : q < (2 : ℝ) ^ ((N : ℤ) - 126)) (hN : 1 ≤ N) (hN' : N < 255) :
    IsField ((q : ℝ) : EReal) N := by
  have hq : 0 < q := lt_of_lt_of_le (by positivity) h1
  intro n hn
  rw [word_nat n hn]
  by_cases h255 : n = 255
  · rw [if_pos h255, top_le_iff]
    exact ⟨fun h => absurd h (EReal.coe_ne_top q), by omega⟩
  · rw [if_neg h255]
    by_cases h0 : n = 0
    · rw [if_pos h0]
      exact ⟨by omega, fun _ => EReal.coe_nonneg.mpr hq.le⟩
    · rw [if_neg h0, EReal.coe_le_coe_iff]
      constructor
      · intro h
        have := (zpow_lt_zpow_iff_right₀ (by norm_num : (1 : ℝ) < 2)).mp (lt_of_le_of_lt h h2)
        omega
      · intro h
        exact le_trans ((zpow_le_zpow_iff_right₀ (by norm_num : (1 : ℝ) < 2)).mpr (by omega)) h1

/-- A positive real lies between two neighbouring powers of two, at the floor of its binary logarithm. -/
theorem floor_log {q : ℝ} (hq : 0 < q) : (2 : ℝ) ^ ⌊Real.log q / Real.log 2⌋ ≤ q ∧ q < (2 : ℝ) ^ (⌊Real.log q / Real.log 2⌋ + 1) := by
  have hl : 0 < Real.log 2 := Real.log_pos (by norm_num)
  constructor
  · rw [← Real.log_le_log_iff (by positivity) hq, Real.log_zpow, ← le_div_iff₀ hl]
    exact Int.floor_le _
  · rw [← Real.log_lt_log_iff hq (by positivity), Real.log_zpow, ← div_lt_iff₀ hl]
    push_cast
    exact Int.lt_floor_add_one _

theorem pow_two (E : ℤ) : Ideal.pow ((2 : ℝ) : EReal) ((E : ℝ) : EReal) = (((2 : ℝ) ^ E : ℝ) : EReal) := by
  show ((Real.rpow 2 (E : ℝ) : ℝ) : EReal) = _
  congr 1
  exact Real.rpow_intCast 2 E

/-- The two exponents are the same number, of absolute value at most 126. -/
theorem exists_expo {q : ℝ} (h : q = 0 ∨ (2 : ℝ) ^ (-126 : ℤ) ≤ q) (h' : q < (2 : ℝ) ^ (125 : ℤ)) :
    ∃ E : ℤ, -126 ≤ E ∧ E ≤ 126 ∧ expo (q : EReal) = BitVec.ofInt 32 E ∧ expoRef (q : EReal) = ((E : ℝ) : EReal) := by
  by_cases h0 : q = 0
  · refine ⟨0, by omega, by omega, ?_, ?_⟩
    · unfold expo
      rw [h0, field_eq isField_zero (by omega)]; rfl
    · unfold expoRef
      rw [h0]; simp
  · have hb := h.resolve_left h0
    have hq : 0 < q := lt_of_lt_of_le (by positivity) hb
    obtain ⟨l1, l2⟩ := floor_log hq
    set L := ⌊Real.log q / Real.log 2⌋ with hL
    have hL1 : -127 < L := by
      have := (zpow_lt_zpow_iff_right₀ (by norm_num : (1 : ℝ) < 2)).mp (lt_of_le_of_lt hb l2)
      omega
    have hL2 : L < 125 := (zpow_lt_zpow_iff_right₀ (by norm_num : (1 : ℝ) < 2)).mp (lt_of_le_of_lt l1 h')
    obtain ⟨N, hN⟩ : ∃ N : ℕ, (N : ℤ) = L + 127 := ⟨(L + 127).toNat, by omega⟩
    have hF : IsField (q : EReal) N := isField_log (by rw [hN]; simpa using l1) (by rw [hN]; convert l2 using 2; ring) (by omega) (by omega)
    refine ⟨L + 1, by omega, by omega, ?_, ?_⟩
    · unfold expo
      rw [field_eq hF (by omega)]
      have hL' : L + 1 = (N : ℤ) - 126 := by omega
      rw [hL']
      have key : ∀ n : Fin 256, 1 ≤ n.val → (if BitVec.ofNat 32 n.val = 0#32 then 0#32 else IntOp.subi (BitVec.ofNat 32 n.val) 126#32) = BitVec.ofInt 32 ((n.val : ℤ) - 126) := by decide +kernel
      exact key ⟨N, by omega⟩ (by show 1 ≤ N; omega)
    · unfold expoRef
      have hlog2 : Real.log 2 ≠ 0 := (Real.log_pos (by norm_num)).ne'
      have e1 : Ideal.log (q : EReal) = ((Real.log q : ℝ) : EReal) := by
        show (if q ≤ 0 then ⊥ else ((Real.log q : ℝ) : EReal)) = _
        rw [if_neg (not_le.mpr hq)]
      have e2 : Ideal.log ((2 : ℝ) : EReal) = ((Real.log 2 : ℝ) : EReal) := by
        show (if (2 : ℝ) ≤ 0 then ⊥ else ((Real.log 2 : ℝ) : EReal)) = _
        rw [if_neg (by norm_num)]
      rw [if_neg (by simpa using h0), e1, e2]
      have e3 : Ideal.div ((Real.log q : ℝ) : EReal) ((Real.log 2 : ℝ) : EReal) = ((Real.log q / Real.log 2 : ℝ) : EReal) := by
        unfold Ideal.div
        rw [if_neg (by simpa using hlog2), ← EReal.coe_inv, ← EReal.coe_mul, div_eq_mul_inv]
      rw [e3]
      show ((((⌊Real.log q / Real.log 2⌋ : ℤ) : ℝ)) : EReal) + 1 = _
      rw [← hL]
      push_cast
      rfl

theorem word_expo : ∀ e : Fin 253, word (IntOp.addi (BitVec.ofInt 32 ((e.val : ℤ) - 126)) 127#32) = word (BitVec.ofNat 32 (e.val + 1))
    ∧ word (IntOp.addi (IntOp.subi 0#32 (BitVec.ofInt 32 ((e.val : ℤ) - 126))) 127#32) = word (BitVec.ofNat 32 (253 - e.val)) := by
  have key : ∀ e : Fin 253, IntOp.addi (BitVec.ofInt 32 ((e.val : ℤ) - 126)) 127#32 = BitVec.ofNat 32 (e.val + 1)
    ∧ IntOp.addi (IntOp.subi 0#32 (BitVec.ofInt 32 ((e.val : ℤ) - 126))) 127#32 = BitVec.ofNat 32 (253 - e.val) := by decide +kernel
  exact fun e => ⟨congrArg word (key e).1, congrArg word (key e).2⟩

/-- The kernel's scale and reciprocal are the reference's. -/
theorem scale_inv {q : ℝ} (h : q = 0 ∨ (2 : ℝ) ^ (-126 : ℤ) ≤ q) (h' : q < (2 : ℝ) ^ (125 : ℤ)) :
    word (IntOp.addi (expo (q : EReal)) 127#32) = Ideal.pow ((2 : ℝ) : EReal) (expoRef (q : EReal))
    ∧ word (IntOp.addi (IntOp.subi 0#32 (expo (q : EReal))) 127#32) = Ideal.pow ((2 : ℝ) : EReal) (-(expoRef (q : EReal))) := by
  obtain ⟨E, h1, h2, e1, e2⟩ := exists_expo h h'
  obtain ⟨n, hn⟩ : ∃ n : ℕ, (n : ℤ) = E + 126 := ⟨(E + 126).toNat, by omega⟩
  have hE : E = (n : ℤ) - 126 := by omega
  have e3 : -((E : ℝ) : EReal) = (((-E : ℤ) : ℝ) : EReal) := by push_cast; rfl
  rw [e1, e2, e3, pow_two, pow_two, hE]
  obtain ⟨k1, k2⟩ := word_expo ⟨n, by omega⟩
  constructor
  · refine k1.trans ?_
    rw [word_nat _ (by show n + 1 < 256; omega), if_neg (by show ¬ n + 1 = 255; omega), if_neg (by show ¬ n + 1 = 0; omega)]
    congr 2
    push_cast
    ring
  · refine k2.trans ?_
    rw [word_nat _ (by show 253 - n < 256; omega), if_neg (by show ¬ 253 - n = 255; omega), if_neg (by show ¬ 253 - n = 0; omega)]
    congr 2
    have : ((253 - n : ℕ) : ℤ) = 253 - n := by omega
    show ((253 - n : ℕ) : ℤ) - 127 = _
    omega

/-- The base of the powers. -/
theorem two_eq : Ideal.ofBits .f32 0x40000000#32 = ((2 : ℝ) : EReal) := by
  have h := word_nat 128 (by norm_num)
  rw [if_neg (by norm_num), if_neg (by norm_num)] at h
  norm_num at h
  exact h

end Cert.AdSpec

end
-- ==== Proof.AdSpec.lean ====
/-
  The results of the problem's second part as formulas over the extended reals, index by index: the gradients of the adapters
  and of the gates, and the quantised gradient with its scale. Token `t` makes two choices `k` of an adapter, `i (t, k)`, each
  with a gate `gt (t, k)`. The kernel's first call and the reference are shown to compute them.
-/
module

public import Idealize.ShloMosaic.PureOps.Ideal
public import Idealize.ShloMosaic.Lib.Pointwise
public import proofs.«01_k».proof.Proof.AdExp

@[expose] public section

noncomputable section

namespace Cert.AdSpec

open Idealize.ShloMosaic

section
variable (x : FVec Ideal ⟨2, ![16384, 2560]⟩ .bf16) (y : FVec Ideal ⟨2, ![16384, 10240]⟩ .bf16) (a : FVec Ideal ⟨3, ![10, 32, 2560]⟩ .bf16)
  (b : FVec Ideal ⟨3, ![10, 10240, 32]⟩ .bf16) (i : IVec ⟨2, ![16384, 2]⟩ 32) (gt : FVec Ideal ⟨2, ![16384, 2]⟩ .f32)

/-- The LoRA scale. -/
abbrev two : EReal := Ideal.ofBits .f32 0x40000000#32

/-- `v` where the choice `w` is adapter `g`, else zero. -/
def chosen (w : BitVec 32) (g : ℕ) (v : EReal) : EReal := Scalar.select (IntOp.cmpi .eq w (BitVec.ofNat 32 g)) v 0

/-- Token `t` against row `r` of adapter `g`'s first matrix. -/
def hdot (t : Fin 16384) (g : Fin 10) (r : Fin 32) : EReal := ∑ d : Fin 2560, (x (ix2 t d) : EReal) * (a (ix3 g r d) : EReal)

/-- Token `t`'s output gradient against column `r` of adapter `g`'s second matrix. -/
def udot (t : Fin 16384) (g : Fin 10) (r : Fin 32) : EReal := ∑ f : Fin 10240, (y (ix2 t f) : EReal) * (b (ix3 g f r) : EReal)

/-- The gradient of the adapters' first matrices. -/
def dA (g : Fin 10) (r : Fin 32) (d : Fin 2560) : EReal :=
  two * ∑ t : Fin 16384, (∑ k : Fin 2, chosen (i (ix2 t k)) g ((gt (ix2 t k) : EReal) * udot y b t g r)) * (x (ix2 t d) : EReal)

/-- The gradient of the adapters' second matrices. -/
def dB (g : Fin 10) (f : Fin 10240) (r : Fin 32) : EReal :=
  two * ∑ k : Fin 2, ∑ t : Fin 16384, chosen (i (ix2 t k)) g (hdot x a t g r * ((gt (ix2 t k) : EReal) * (y (ix2 t f) : EReal)))

/-- The gradient of the gates. -/
def dgate (t : Fin 16384) (k : Fin 2) : EReal :=
  two * ∑ g : Fin 10, ∑ r : Fin 32, chosen (i (ix2 t k)) g (udot y b t g r * hdot x a t g r)

/-- The gated products of token `t`, adapter after adapter. -/
def gus (t : Fin 16384) (j : Fin 320) : EReal :=
  two * ∑ k : Fin 2, chosen (i (ix2 t k)) (j.val / 32) ((gt (ix2 t k) : EReal) * udot y b t ⟨j.val / 32, by omega⟩ ⟨j.val % 32, by omega⟩)

/-- The greatest magnitude of token `t`'s output gradient, over the greatest float of the codes. -/
def quot (t : Fin 16384) : EReal :=
  Finset.fold max (Ideal.ofBits .f32 0xFF800000#32) (fun f : Fin 10240 => FloatOps.absf (y (ix2 t f))) Finset.univ * Ideal.ofBits .f32 0x37924925#32

/-- Token `t`'s scale, a power of two. -/
def scale (t : Fin 16384) : EReal := Ideal.pow two (expoRef (quot y t))

/-- Its reciprocal. -/
def inv (t : Fin 16384) : EReal := Ideal.pow two (-(expoRef (quot y t)))

/-- The codes: the gradient over its token's scale, clipped to the codes' range. -/
def codes (t : Fin 16384) (f : Fin 10240) : EReal :=
  min (Ideal.ofBits .f32 0x47600000#32) (max (Ideal.ofBits .f32 0xC7600000#32) ((y (ix2 t f) : EReal) * inv y t))

end

end Cert.AdSpec

end
-- ==== Proof.AdStage.lean ====
/-
  The stored values of the kernel's first call, entry by entry, as expressions over the blocks they are computed from.
-/
module

public import proofs.«01_k».proof.Proof.Gen.AdapterIdeal.Frame
public import proofs.«01_k».proof.Proof.AdSpec
public import Idealize.ShloMosaic.Lib.Pipeline.ValueKit
public import Idealize.ShloMosaic.Lib.Pipeline.ReadBack

@[expose] public section

set_option maxRecDepth 16384

noncomputable section

namespace Cert.AdapterIdeal.Val

open Cert.AdapterIdeal Cert.AdapterIdeal.Gen Idealize.ShloMosaic Idealize.ShloMosaic.TcCoe Idealize.SL.Sem
open Cert.AdSpec (two chosen word step field expo)

section Field

variable {F : FTy → Type} [FloatOps F]

/-- One step of the bisection, on every lane. -/
def vstep (q : FVec F S256x128 .f32) (w : IVec S256x128 32) (b : BitVec 32) : IVec S256x128 32 :=
  select (cmpf .olt q (bitcastToFloat .f32 (shli (addi w (broadcast S256x128 b)) (broadcast S256x128 23#32)))) w (addi w (broadcast S256x128 b))

/-- The exponent field, on every lane. -/
def vfield (q : FVec F S256x128 .f32) : IVec S256x128 32 :=
  vstep q (vstep q (vstep q (vstep q (vstep q (vstep q (vstep q (vstep q (broadcast S256x128 0#32) 128#32) 64#32) 32#32) 16#32) 8#32) 4#32) 2#32) 1#32

/-- The exponent, on every lane. -/
def vexpo (q : FVec F S256x128 .f32) : IVec S256x128 32 :=
  select (cmpi .eq (vfield q) (broadcast S256x128 0#32)) (broadcast S256x128 0#32) (subi (vfield q) (broadcast S256x128 126#32))

/-- The kernel's exponent. -/
theorem pay15_eq (y : Vec F S256x10240 .bf16) : k0_pay15 (k0_pay11 y) (k0_pay12 y) (k0_pay13 y) k0_pay14 = vexpo (k0_pay11 y) := by sl_kernel_rfl

/-- The kernel's scale. -/
theorem pay16_eq (y : Vec F S256x10240 .bf16) : k0_pay16 (k0_pay11 y) (k0_pay12 y) (k0_pay13 y) k0_pay14
    = bitcastToFloat .f32 (shli (addi (vexpo (k0_pay11 y)) (broadcast S256x128 127#32)) (broadcast S256x128 23#32)) := by sl_kernel_rfl

end Field

theorem vstep_at (q : FVec Ideal S256x128 .f32) (w : IVec S256x128 32) (b : BitVec 32) (j : S256x128.Idx) :
    vstep q w b j = step (q j) (w j) b := by
  show Scalar.select (FloatOps.cmpf .olt (q j) (word (IntOp.addi (w j) b))) (w j) (IntOp.addi (w j) b) = _
  rw [show FloatOps.cmpf .olt (q j) (word (IntOp.addi (w j) b)) = BitVec.ofBool (decide (q j < word (IntOp.addi (w j) b))) from rfl]
  unfold step Scalar.select
  by_cases h : word (IntOp.addi (w j) b) ≤ q j
  · rw [if_pos h, decide_eq_false (not_lt.mpr h), if_neg]
    decide
  · rw [if_neg h, decide_eq_true (not_le.mp h), if_pos]
    rfl

theorem vfield_at (q : FVec Ideal S256x128 .f32) (j : S256x128.Idx) : vfield q j = field (q j) := by
  unfold vfield
  simp only [vstep_at]
  rfl

theorem vexpo_at (q : FVec Ideal S256x128 .f32) (j : S256x128.Idx) : vexpo q j = expo (q j) := by
  show Scalar.select (IntOp.cmpi .eq (vfield q j) 0#32) 0#32 (IntOp.subi (vfield q j) 126#32) = _
  rw [vfield_at]
  unfold expo Scalar.select
  by_cases h : field (q j) = 0#32
  · rw [h]; rfl
  · rw [if_neg h, if_neg]
    rw [show IntOp.cmpi .eq (field (q j)) 0#32 = BitVec.ofBool (field (q j) == 0#32) from rfl, beq_false_of_ne h]
    decide

/-- The greatest magnitude of each row. -/
theorem reduce_row (v : FVec Ideal S256x10240 .bf16) (t : Fin 256) :
    multiReduction .maximumf [1] S256 v 0xFF80#16 reduces_S256x10240_S256 (.inr rfl) rfl (ix1 t)
      = Finset.fold max (Ideal.ofBits .bf16 0xFF80#16) (fun k => v (ix2 t k)) Finset.univ := by
  pointwise

theorem lanes_at (v : FVec Ideal S256 .bf16) (t : Fin 256) (l : Fin 128) :
    (mulf (broadcastTo S256x128 (shapeCast S256x1 (extf .f32 (shapeCast S256x1 v shapeCasts_S256_S256x1) bitsLt_bf16_f32) shapeCasts_S256x1_S256x1) broadcasts_S256x1_S256x128)
      (broadcast S256x128 (Scalar.ofBits (F := Ideal) .f32 0x37924925#32)) (ix2 t l) : EReal) = (v (ix1 t) : EReal) * Ideal.ofBits .f32 0x37924925#32 := by
  pointwise

/-- The quotient of a row, on every lane. -/
theorem pay11_at (y : Vec Ideal S256x10240 .bf16) (t : Fin 256) (l : Fin 128) :
    (k0_pay11 (F := Ideal) y (ix2 t l) : EReal) = Finset.fold max (Ideal.ofBits .bf16 0xFF80#16) (fun k => FloatOps.absf (y (ix2 t k))) Finset.univ * Ideal.ofBits .f32 0x37924925#32 := by
  unfold k0_pay11
  rw [lanes_at, reduce_row]
  rfl

/-- Each row of the flattened adapters belongs to one of the ten. -/
theorem pay7_at (j : Fin 320) (t : Fin 256) : k0_pay7 (ix2 j t) = BitVec.ofNat 32 (j.val / 32) := by
  pointwise [k0_pay7]
  revert j
  decide +kernel

theorem cmpi_comm (a b : BitVec 32) : IntOp.cmpi .eq a b = IntOp.cmpi .eq b a := by
  show BitVec.ofBool (a == b) = BitVec.ofBool (b == a)
  rw [BEq.comm]

theorem pay8_at (v : Vec Ideal S1x256 .i32) (j : Fin 320) (t : Fin 256) :
    k0_pay8 (F := Ideal) v (ix2 j t) = IntOp.cmpi .eq (v (ix2 0 t)) (BitVec.ofNat 32 (j.val / 32)) := by
  pointwise [k0_pay8]
  rw [pay7_at, cmpi_comm]

theorem pay9_at (v : Vec Ideal S1x256 .i32) (j : Fin 320) (t : Fin 256) :
    k0_pay9 (F := Ideal) v (ix2 j t) = IntOp.cmpi .eq (v (ix2 0 t)) (BitVec.ofNat 32 (j.val / 32)) := by
  pointwise [k0_pay9]
  rw [pay7_at, cmpi_comm]

/-- The kernel's scale, on every lane. -/
theorem pay16_at (y : Vec Ideal S256x10240 .bf16) (j : S256x128.Idx) :
    k0_pay16 (k0_pay11 y) (k0_pay12 y) (k0_pay13 y) k0_pay14 j = word (IntOp.addi (expo (k0_pay11 y j)) 127#32) := by
  rw [pay16_eq, ← vexpo_at]
  rfl

theorem pay17_at (e : IVec S256x128 32) (t : Fin 256) :
    (k0_pay17 (F := Ideal) e (ix2 t 0) : EReal) = word (IntOp.addi (IntOp.subi 0#32 (e (ix2 t 0))) 127#32) := by
  pointwise [k0_pay17]
  rfl

end Cert.AdapterIdeal.Val

end
-- ==== Proof.AdOut.lean ====
/-
  The two blocks that a grid point of the first call writes in ten chunks of 1024 columns, the codes and the running gradient of
  the second matrices: as functions of the point's input blocks, and of the block that the previous point left.
-/
module

public import proofs.«01_k».proof.Proof.Gen.AdapterIdeal.Frame
public import proofs.«01_k».proof.Proof.AdStage
public import Idealize.ShloMosaic.Lib.Pipeline.ValueKit
public import Idealize.ShloMosaic.Lib.Pipeline.ReadBack

@[expose] public section

set_option maxRecDepth 16384

noncomputable section

namespace Cert.AdapterIdeal.Val

open Cert.AdapterIdeal Cert.AdapterIdeal.Gen Idealize.ShloMosaic Idealize.ShloMosaic.TcCoe Idealize.SL.Sem
open Cert.AdSpec (two chosen word step field expo)

theorem inb_chunk (k : ℕ) : ∀ a, (![0, k % 10 * 1024] : Fin 2 → ℕ) a + S256x1024.size a ≤ S256x10240.size a :=
  Fin.forall_fin_two.mpr ⟨by show 0 + 256 ≤ 256; omega, by show k % 10 * 1024 + 1024 ≤ 10240; omega⟩

theorem inb_db (k : ℕ) : ∀ a, (![0, k % 10 * 1024] : Fin 2 → ℕ) a + S320x1024.size a ≤ S320x10240.size a :=
  Fin.forall_fin_two.mpr ⟨by show 0 + 320 ≤ 320; omega, by show k % 10 * 1024 + 1024 ≤ 10240; omega⟩

/-- Chunk `k` of the gradient and the codes, and of the second matrices' gradient. -/
abbrev chunk (k : ℕ) : Rect S256x10240 := Rect.unit ![0, k % 10 * 1024] S256x1024.size (inb_chunk k)
abbrev dbChunk (k : ℕ) : Rect S320x10240 := Rect.unit ![0, k % 10 * 1024] S320x1024.size (inb_db k)

theorem chunk_emb (k : ℕ) (t : Fin 256) (f : Fin 1024) : (chunk k).emb (ix2 t f) = ix2 t (⟨k % 10 * 1024 + f.val, by omega⟩ : Fin 10240) := by
  refine funext (Fin.forall_fin_two.mpr ⟨Fin.ext ?_, Fin.ext ?_⟩)
  · show 0 + 1 * t.val = t.val; omega
  · show k % 10 * 1024 + 1 * f.val = k % 10 * 1024 + f.val; omega

theorem dbChunk_emb (k : ℕ) (j : Fin 320) (f : Fin 1024) : (dbChunk k).emb (ix2 j f) = ix2 j (⟨k % 10 * 1024 + f.val, by omega⟩ : Fin 10240) := by
  refine funext (Fin.forall_fin_two.mpr ⟨Fin.ext ?_, Fin.ext ?_⟩)
  · show 0 + 1 * j.val = j.val; omega
  · show k % 10 * 1024 + 1 * f.val = k % 10 * 1024 + f.val; omega

section Lists

variable {F : FTy → Type} [FloatOps F] [∀ e, Nonempty (Elt F e)]

/-- The stores of the first `n` chunks of the codes, the last first. -/
def codesStores (e : IVec S256x128 32) (y : Vec F S256x10240 .bf16) : ℕ → List (View.Piece (Elt F) S256x10240 .fp8e5m2)
  | 0 => []
  | n + 1 => ⟨chunk n, k0_pay18 e (View.ld y (chunk n))⟩ :: codesStores e y n

/-- The stores of the first `n` chunks of the gradient over a previous block `p`, the last first. -/
def dbStores (h : FVec F S320x512 .bf16) (e0 e1 : Vec F S256x1 .f32) (y : Vec F S256x10240 .bf16) (p : Vec F S320x10240 .f32) :
    ℕ → List (View.Piece (Elt F) S320x10240 .f32)
  | 0 => []
  | n + 1 => ⟨dbChunk n, k0_pay19 h e0 e1 (View.ld y (chunk n)) (View.ld p (dbChunk n))⟩ :: dbStores h e0 e1 y p n

/-- At the first point the block is filled with zero, and each chunk is read back from the stores so far. -/
def dbFirst (v : View sig .tc .vmem S320x10240 .f32) (h : FVec F S320x512 .bf16) (e0 e1 : Vec F S256x1 .f32) (y : Vec F S256x10240 .bf16) :
    ℕ → List (View.Piece (Elt F) S320x10240 .f32)
  | 0 => [⟨Rect.unit ![0, 0] S320x10240.size inb_S320x10240_S320x10240_0_0, k0_pay5⟩]
  | n + 1 => ⟨dbChunk n, k0_pay19 h e0 e1 (View.ld y (chunk n)) (v.readCov (dbFirst v h e0 e1 y n) (dbChunk n).toLoadRect)⟩ :: dbFirst v h e0 e1 y n

theorem disj_db : ∀ n k : Fin 10, n < k → LoadRect.disj (dbChunk n.val) (dbChunk k.val).toLoadRect = true := by decide +kernel

/-- A chunk that is not yet stored reads back the fill. -/
theorem readCov_dbFirst (v : View sig .tc .vmem S320x10240 .f32) (h : FVec F S320x512 .bf16) (e0 e1 : Vec F S256x1 .f32) (y : Vec F S256x10240 .bf16) (k : ℕ) (hk : k < 10) :
    ∀ n ≤ k, v.readCov (dbFirst v h e0 e1 y n) (dbChunk k).toLoadRect = View.ld k0_pay5 (dbChunk k) := by
  intro n
  induction n with
  | zero =>
    intro _
    have h0 : ∀ a, (![0, 0] : Fin 2 → ℕ) a = 0 := Fin.forall_fin_two.mpr ⟨rfl, rfl⟩
    have hf := View.readCov_fill (Val := Elt F) (s := S320x10240) (off := ![0, 0]) v inb_S320x10240_S320x10240_0_0 (k0_pay5 (F := F)) [] (dbChunk k) h0
    rw [dbFirst]
    exact hf
  | succ n ih =>
    intro hn
    have hd : LoadRect.disj (dbChunk n) (dbChunk k).toLoadRect = true := disj_db ⟨n, by omega⟩ ⟨k, hk⟩ (Fin.mk_lt_mk.mpr (by omega))
    rw [dbFirst, View.readCov_skip v _ _ _ _ hd, ih (by omega)]

/-- So the first point's stores are those over a zero block, after the fill. -/
theorem dbFirst_eq (v : View sig .tc .vmem S320x10240 .f32) (h : FVec F S320x512 .bf16) (e0 e1 : Vec F S256x1 .f32) (y : Vec F S256x10240 .bf16) :
    ∀ n ≤ 10, dbFirst v h e0 e1 y n
      = dbStores h e0 e1 y k0_pay5 n ++ [⟨Rect.unit ![0, 0] S320x10240.size inb_S320x10240_S320x10240_0_0, k0_pay5⟩]
  | 0, _ => rfl
  | n + 1, hn => by
    show _ :: _ = _ :: _
    rw [readCov_dbFirst v h e0 e1 y n (by omega) n le_rfl, dbFirst_eq v h e0 e1 y n (by omega)]
    rfl

/-- Every column of the codes lies in one of the ten chunks, -/
theorem codesStores_cover (e : IVec S256x128 32) (y : Vec F S256x10240 .bf16) (j : S256x10240.Idx) : ∃ p ∈ codesStores e y 10, j ∈ p.1.set := by
  have hmem : ∀ n k, k < n → (⟨chunk k, k0_pay18 e (View.ld y (chunk k))⟩ : View.Piece (Elt F) S256x10240 .fp8e5m2) ∈ codesStores e y n := by
    intro n
    induction n with
    | zero => intro k hk; omega
    | succ n ih =>
      intro k hk
      rcases Nat.lt_succ_iff_lt_or_eq.mp hk with h | rfl
      · exact List.mem_cons_of_mem _ (ih k h)
      · exact List.mem_cons_self
  have hj0 : (j 0).val < 256 := (j 0).isLt
  have hj : (j 1).val < 10240 := (j 1).isLt
  refine ⟨_, hmem 10 ((j 1).val / 1024) (by omega), (Rect.mem_set_unit (inb := inb_chunk _)).mpr (Fin.forall_fin_two.mpr ⟨⟨?_, ?_⟩, ?_, ?_⟩)⟩
  · show 0 ≤ (j 0).val; omega
  · show (j 0).val < 0 + 256; omega
  · show (j 1).val / 1024 % 10 * 1024 ≤ (j 1).val; omega
  · show (j 1).val < (j 1).val / 1024 % 10 * 1024 + 1024; omega

/-- and so does every column of the gradient. -/
theorem dbStores_cover (h : FVec F S320x512 .bf16) (e0 e1 : Vec F S256x1 .f32) (y : Vec F S256x10240 .bf16) (p : Vec F S320x10240 .f32) (j : S320x10240.Idx) :
    ∃ q ∈ dbStores h e0 e1 y p 10, j ∈ q.1.set := by
  have hmem : ∀ n k, k < n → (⟨dbChunk k, k0_pay19 h e0 e1 (View.ld y (chunk k)) (View.ld p (dbChunk k))⟩ : View.Piece (Elt F) S320x10240 .f32) ∈ dbStores h e0 e1 y p n := by
    intro n
    induction n with
    | zero => intro k hk; omega
    | succ n ih =>
      intro k hk
      rcases Nat.lt_succ_iff_lt_or_eq.mp hk with h | rfl
      · exact List.mem_cons_of_mem _ (ih k h)
      · exact List.mem_cons_self
  have hj0 : (j 0).val < 320 := (j 0).isLt
  have hj : (j 1).val < 10240 := (j 1).isLt
  refine ⟨_, hmem 10 ((j 1).val / 1024) (by omega), (Rect.mem_set_unit (inb := inb_db _)).mpr (Fin.forall_fin_two.mpr ⟨⟨?_, ?_⟩, ?_, ?_⟩)⟩
  · show 0 ≤ (j 0).val; omega
  · show (j 0).val < 0 + 320; omega
  · show (j 1).val / 1024 % 10 * 1024 ≤ (j 1).val; omega
  · show (j 1).val < (j 1).val / 1024 % 10 * 1024 + 1024; omega

end Lists

/-- The codes of a block. -/
def codesOf (e : IVec S256x128 32) (y : Vec Ideal S256x10240 .bf16) : Vec Ideal S256x10240 .fp8e5m2 := fun j =>
  (min (Ideal.ofBits .f32 0x47600000#32) (max (Ideal.ofBits .f32 0xC7600000#32) ((y j : EReal) * (k0_pay17 (F := Ideal) e (ix2 (j 0) 0) : EReal))) : EReal)

theorem codesStores_mem (e : IVec S256x128 32) (y : Vec Ideal S256x10240 .bf16) : ∀ n, View.PiecesOf (codesOf e y) (codesStores e y n)
  | 0 => trivial
  | n + 1 => ⟨fun x => by
      show k0_pay18 (F := Ideal) e (View.ld y (chunk n)) x = _
      idx_vars x
      rw [chunk_emb]
      pointwise [k0_pay18, codesOf], codesStores_mem e y n⟩

theorem canon_codes (e : IVec S256x128 32) (y : Vec Ideal S256x10240 .bf16) (j : S256x10240.Idx) :
    View.canon (codesStores e y 10) j = codesOf e y j := by
  have := View.canon_append_of_piecesOf (codesOf e y) [] _ (codesStores_mem e y 10) j (codesStores_cover e y j)
  rwa [List.append_nil] at this

/-- What a point adds to the gradient: the two choices of its 256 tokens. -/
def dbPart (h : FVec Ideal S320x512 .bf16) (e0 e1 : Vec Ideal S256x1 .f32) (y : Vec Ideal S256x10240 .bf16) (j : Fin 320) (f : Fin 10240) : EReal :=
  ∑ t : Fin 256, (h (ix2 j ⟨t.val, by omega⟩) : EReal) * ((e0 (ix2 t 0) : EReal) * (y (ix2 t f) : EReal))
    + ∑ t : Fin 256, (h (ix2 j ⟨256 + t.val, by omega⟩) : EReal) * ((e1 (ix2 t 0) : EReal) * (y (ix2 t f) : EReal))

/-- The gradient after a point. -/
def dbOf (h : FVec Ideal S320x512 .bf16) (e0 e1 : Vec Ideal S256x1 .f32) (y : Vec Ideal S256x10240 .bf16) (p : Vec Ideal S320x10240 .f32) : Vec Ideal S320x10240 .f32 :=
  fun j => ((p j : EReal) + dbPart h e0 e1 y (j 0) (j 1) : EReal)

theorem dbStores_mem (h : FVec Ideal S320x512 .bf16) (e0 e1 : Vec Ideal S256x1 .f32) (y : Vec Ideal S256x10240 .bf16) (p : Vec Ideal S320x10240 .f32) :
    ∀ n, View.PiecesOf (dbOf h e0 e1 y p) (dbStores h e0 e1 y p n)
  | 0 => trivial
  | n + 1 => ⟨fun x => by
      show k0_pay19 (F := Ideal) h e0 e1 (View.ld y (chunk n)) (View.ld p (dbChunk n)) x = _
      idx_vars x
      rw [dbChunk_emb]
      pointwise [k0_pay19, dbOf, dbPart], dbStores_mem h e0 e1 y p n⟩

theorem canon_db (h : FVec Ideal S320x512 .bf16) (e0 e1 : Vec Ideal S256x1 .f32) (y : Vec Ideal S256x10240 .bf16) (p : Vec Ideal S320x10240 .f32)
    (L : List (View.Piece (Elt Ideal) S320x10240 .f32)) (j : S320x10240.Idx) : View.canon (dbStores h e0 e1 y p 10 ++ L) j = dbOf h e0 e1 y p j :=
  View.canon_append_of_piecesOf (dbOf h e0 e1 y p) L _ (dbStores_mem h e0 e1 y p 10) j (dbStores_cover h e0 e1 y p j)

end Cert.AdapterIdeal.Val

end
-- ==== Proof.AdPoint.lean ====
/-
  What a grid point of the first call leaves in each of its six output blocks, at the first point and at the others.
-/
module

public import proofs.«01_k».proof.Proof.Gen.AdapterIdeal.Frame
public import proofs.«01_k».proof.Proof.AdOut
public import Idealize.ShloMosaic.Lib.Pipeline.ValueKit
public import Idealize.ShloMosaic.Lib.Pipeline.ReadBack

@[expose] public section

set_option maxRecDepth 16384

noncomputable section

namespace Cert.AdapterIdeal.Val

open Cert.AdapterIdeal Cert.AdapterIdeal.Gen Idealize.ShloMosaic Idealize.ShloMosaic.TcCoe Idealize.SL.Sem
open Cert.AdSpec (two chosen word step field expo)

variable (m : (ℓ : Loc nD τ sig) → Buf (Elt Ideal) ℓ) (c : Dev nD) (t : Fin cfg0.N)

/-- The two choices of the point's tokens, and their gates as columns and as rows. -/
abbrev choice0 : Vec Ideal S1x256 .i32 := View.ld (iblk m c 4 t) (Rect.unit ![0, 0] S1x256.size inb_S2x256_S1x256_0_0)
abbrev choice1 : Vec Ideal S1x256 .i32 := View.ld (iblk m c 4 t) (Rect.unit ![1, 0] S1x256.size inb_S2x256_S1x256_1_0)
abbrev gate0 : Vec Ideal S1x256 .f32 := View.ld (iblk m c 5 t) (Rect.unit ![0, 0] S1x256.size inb_S2x256_S1x256_0_0)
abbrev gate1 : Vec Ideal S1x256 .f32 := View.ld (iblk m c 5 t) (Rect.unit ![1, 0] S1x256.size inb_S2x256_S1x256_1_0)
abbrev col0 : Vec Ideal S256x1 .f32 := View.ld (iblk m c 6 t) (Rect.unit ![0, 0] S256x1.size inb_S256x2_S256x1_0_0)
abbrev col1 : Vec Ideal S256x1 .f32 := View.ld (iblk m c 6 t) (Rect.unit ![0, 1] S256x1.size inb_S256x2_S256x1_0_1)

/-- Where the point's tokens choose each adapter, and its products with the adapters' two matrices. -/
abbrev mask0 : IVec S320x256 1 := k0_pay8 (F := Ideal) (choice0 m c t)
abbrev mask1 : IVec S320x256 1 := k0_pay9 (F := Ideal) (choice1 m c t)
abbrev hs : FVec Ideal S320x256 .f32 := k0_pay6 (iblk m c 2 t) (iblk m c 0 t)
abbrev us : FVec Ideal S320x256 .f32 := k0_pay45 (iblk m c 3 t) (iblk m c 1 t)

/-- The codes. -/
theorem codes_out (j : S256x10240.Idx) : (outsAt0 m c t.val t.isLt).1 j = codesOf (vexpo (k0_pay11 (iblk m c 1 t))) (iblk m c 1 t) j := by
  rw [← canon_codes]
  by_cases h : t.val % 64 = 0
  · rw [outsAt0_A m c t h]; frame_out
    generalize iblk m c 1 t = y
    refine congrArg (fun L => View.canon L j) (?_ : _ = codesStores (vexpo (k0_pay11 y)) y 10)
    sl_kernel_rfl
  · rw [outsAt0_B m c t h]; frame_out
    generalize iblk m c 1 t = y
    refine congrArg (fun L => View.canon L j) (?_ : _ = codesStores (vexpo (k0_pay11 y)) y 10)
    sl_kernel_rfl

/-- The scale, on every lane. -/
theorem scale_out (j : S256x128.Idx) : (outsAt0 m c t.val t.isLt).2.1 j = word (IntOp.addi (expo (k0_pay11 (iblk m c 1 t) j)) 127#32) := by
  by_cases h : t.val % 64 = 0
  · rw [outsAt0_A m c t h]; frame_out
    exact pay16_at _ _
  · rw [outsAt0_B m c t h]; frame_out
    exact pay16_at _ _

/-- The gated products. -/
theorem gu_out (j : S256x320.Idx) : (outsAt0 m c t.val t.isLt).2.2.1 j
    = k0_pay2 (F := Ideal) (mask0 m c t) (mask1 m c t) (us m c t) (gate0 m c t) (gate1 m c t) j := by
  by_cases h : t.val % 64 = 0
  · rw [outsAt0_A m c t h]; frame_out
    rfl
  · rw [outsAt0_B m c t h]; frame_out
    rfl

/-- The gates' gradient. -/
theorem dgate_out (j : S2x256.Idx) : (outsAt0 m c t.val t.isLt).2.2.2.1 j
    = k0_pay46 (F := Ideal) (hs m c t) (mask0 m c t) (mask1 m c t) (iblk m c 3 t) (iblk m c 1 t) j := by
  by_cases h : t.val % 64 = 0
  · rw [outsAt0_A m c t h]; frame_out
    rfl
  · rw [outsAt0_B m c t h]; frame_out
    rfl

/-- The first matrices' gradient: zero before the first point, and what the previous point left before the others. -/
theorem da_first (h : t.val % 64 = 0) (j : S320x2560.Idx) : (outsAt0 m c t.val t.isLt).2.2.2.2.1 j
    = k0_pay3 (F := Ideal) (mask0 m c t) (mask1 m c t) (us m c t) (gate0 m c t) (gate1 m c t) (k0_pay4 (F := Ideal)) (iblk m c 0 t) j := by
  rw [outsAt0_A m c t h]; frame_out
  rfl

theorem da_next (h : ¬ t.val % 64 = 0) (j : S320x2560.Idx) : (outsAt0 m c t.val t.isLt).2.2.2.2.1 j
    = k0_pay3 (F := Ideal) (mask0 m c t) (mask1 m c t) (us m c t) (gate0 m c t) (gate1 m c t)
        (outsAt0 m c (t.val - 1) (lt_of_le_of_lt (Nat.sub_le _ _) t.isLt)).2.2.2.2.1 (iblk m c 0 t) j := by
  rw [outsAt0_B m c t h]; frame_out
  rfl

/-- The second matrices' gradient likewise. -/
theorem db_first (h : t.val % 64 = 0) (j : S320x10240.Idx) : (outsAt0 m c t.val t.isLt).2.2.2.2.2 j
    = dbOf (k0_pay10 (hs m c t) (mask0 m c t) (mask1 m c t)) (col0 m c t) (col1 m c t) (iblk m c 1 t) (k0_pay5 (F := Ideal)) j := by
  rw [← canon_db _ _ _ _ _ [⟨Rect.unit ![0, 0] S320x10240.size inb_S320x10240_S320x10240_0_0, k0_pay5 (F := Ideal)⟩], ← dbFirst_eq (ms0_12 t).view _ _ _ _ 10 le_rfl,
    outsAt0_A m c t h]
  frame_out
  unfold hs mask0 mask1 choice0 choice1 col0 col1
  generalize iblk m c 0 t = x0
  generalize iblk m c 1 t = x1
  generalize iblk m c 2 t = x2
  generalize iblk m c 4 t = x4
  generalize iblk m c 6 t = x6
  refine congrArg (fun L => View.canon L j) ?_
  sl_kernel_rfl

theorem db_next (h : ¬ t.val % 64 = 0) (j : S320x10240.Idx) : (outsAt0 m c t.val t.isLt).2.2.2.2.2 j
    = dbOf (k0_pay10 (hs m c t) (mask0 m c t) (mask1 m c t)) (col0 m c t) (col1 m c t) (iblk m c 1 t)
        (outsAt0 m c (t.val - 1) (lt_of_le_of_lt (Nat.sub_le _ _) t.isLt)).2.2.2.2.2 j := by
  rw [← canon_db _ _ _ _ _ [], List.append_nil, outsAt0_B m c t h]
  frame_out
  generalize (outsAt0 m c (t.val - 1) _).2.2.2.2.2 = p
  unfold hs mask0 mask1 choice0 choice1 col0 col1
  generalize iblk m c 0 t = x0
  generalize iblk m c 1 t = x1
  generalize iblk m c 2 t = x2
  generalize iblk m c 4 t = x4
  generalize iblk m c 6 t = x6
  refine congrArg (fun L => View.canon L j) ?_
  sl_kernel_rfl

end Cert.AdapterIdeal.Val

end
-- ==== Proof.AdRead.lean ====
/-
  What the first call's blocks hold: the reads of the arguments, as they stand or rearranged by the lines before the call.
-/
module

public import proofs.«01_k».proof.Proof.Gen.AdapterIdeal.Frame
public import proofs.«01_k».proof.Proof.AdPoint
public import Idealize.ShloMosaic.Lib.Pipeline.ValueKit
public import Idealize.ShloMosaic.Lib.StableHlo.ReadAt

@[expose] public section

set_option maxRecDepth 16384

noncomputable section

namespace Cert.AdapterIdeal.Val

open Cert.AdapterIdeal Cert.AdapterIdeal.Gen Idealize.ShloMosaic Idealize.ShloMosaic.TcCoe Idealize.SL.Sem

variable (m : (ℓ : Loc nD τ sig) → Buf (Elt Ideal) ℓ) (c : Dev nD)

/-- The arguments: the tokens, their output gradients, the adapters' matrices, the choices and the gates. -/
abbrev x : FVec Ideal S16384x2560 .bf16 := m ((c : Thread nD τ).loc main_arg0)
abbrev y : FVec Ideal S16384x10240 .bf16 := m ((c : Thread nD τ).loc main_arg1)
abbrev a : FVec Ideal S10x32x2560 .bf16 := m ((c : Thread nD τ).loc main_arg2)
abbrev b : FVec Ideal S10x10240x32 .bf16 := m ((c : Thread nD τ).loc main_arg3)
abbrev i : IVec S16384x2 32 := m ((c : Thread nD τ).loc main_arg4)
abbrev gt : FVec Ideal S16384x2 .f32 := m ((c : Thread nD τ).loc main_arg5)

theorem idx : ∀ t : Fin cfg0.N, win0_0.index t = ![t.val, 0] ∧ win0_1.index t = ![t.val, 0] ∧ win0_2.index t = ![0, 0]
    ∧ win0_3.index t = ![0, 0] ∧ win0_4.index t = ![0, t.val] ∧ win0_5.index t = ![0, t.val] ∧ win0_6.index t = ![t.val, 0]
    ∧ win0_7.index t = ![t.val, 0] ∧ win0_8.index t = ![t.val, 0] ∧ win0_9.index t = ![t.val, 0] ∧ win0_10.index t = ![0, t.val]
    ∧ win0_11.index t = ![0, 0] ∧ win0_12.index t = ![0, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, t.val] ∧ win0_5.index t = ![0, t.val] ∧ win0_6.index t = ![t.val, 0]
    ∧ win0_7.index t = ![t.val, 0] ∧ win0_8.index t = ![t.val, 0] ∧ win0_9.index t = ![t.val, 0] ∧ win0_10.index t = ![0, t.val]
    ∧ win0_11.index t = ![0, 0] ∧ win0_12.index t = ![0, 0])

theorem V_v0 (k : Fin 320) (d : Fin 2560) :
    V m c main_v0 (ix2 k d) = a m c (ix3 (⟨k.val / 32, by omega⟩ : Fin 10) (⟨k.val % 32, by omega⟩ : Fin 32) d) := by
  simp only [V, hostOps0, List.flatten_cons, List.flatten_nil, List.append_nil]
  after_reads_simp
  pointwise

theorem V_v2 (k : Fin 320) (f : Fin 10240) :
    V m c main_v2 (ix2 k f) = b m c (ix3 (⟨k.val / 32, by omega⟩ : Fin 10) f (⟨k.val % 32, by omega⟩ : Fin 32)) := by
  simp only [V, hostOps0, List.flatten_cons, List.flatten_nil, List.append_nil]
  after_reads_simp
  pointwise

theorem V_v3 (k : Fin 2) (t : Fin 16384) : V m c main_v3 (ix2 k t) = i m c (ix2 t k) := by
  simp only [V, hostOps0, List.flatten_cons, List.flatten_nil, List.append_nil]
  after_reads_simp
  pointwise

theorem V_v4 (k : Fin 2) (t : Fin 16384) : V m c main_v4 (ix2 k t) = gt m c (ix2 t k) := by
  simp only [V, hostOps0, List.flatten_cons, List.flatten_nil, List.append_nil]
  after_reads_simp
  pointwise

variable (t : Fin cfg0.N)

/-- The token at row `s` of point `t`. -/
def tok (s : Fin 256) : Fin 16384 := ⟨t.val * 256 + s.val, by have ht : t.val < 64 := t.isLt; omega⟩

theorem read0 (s : Fin 256) (d : Fin 2560) : iblk m c 0 t (ix2 s d) = x m c (ix2 (tok t s) d) := by
  blk_ext [iblk, V_main_arg0, idx t, tok]

theorem read1 (s : Fin 256) (f : Fin 10240) : iblk m c 1 t (ix2 s f) = y m c (ix2 (tok t s) f) := by
  blk_ext [iblk, V_main_arg1, idx t, tok]

theorem read2 (k : Fin 320) (d : Fin 2560) :
    iblk m c 2 t (ix2 k d) = a m c (ix3 (⟨k.val / 32, by omega⟩ : Fin 10) (⟨k.val % 32, by omega⟩ : Fin 32) d) := by
  rw [← V_v0]
  blk_ext [iblk, idx t]

theorem read3 (k : Fin 320) (f : Fin 10240) :
    iblk m c 3 t (ix2 k f) = b m c (ix3 (⟨k.val / 32, by omega⟩ : Fin 10) f (⟨k.val % 32, by omega⟩ : Fin 32)) := by
  rw [← V_v2]
  blk_ext [iblk, idx t]

theorem read4 (k : Fin 2) (s : Fin 256) : iblk m c 4 t (ix2 k s) = i m c (ix2 (tok t s) k) := by
  rw [← V_v3]
  blk_ext [iblk, idx t, tok]

theorem read5 (k : Fin 2) (s : Fin 256) : iblk m c 5 t (ix2 k s) = gt m c (ix2 (tok t s) k) := by
  rw [← V_v4]
  blk_ext [iblk, idx t, tok]

theorem read6 (s : Fin 256) (k : Fin 2) : iblk m c 6 t (ix2 s k) = gt m c (ix2 (tok t s) k) := by
  blk_ext [iblk, V_main_arg5, idx t, tok]

end Cert.AdapterIdeal.Val

end
-- ==== Proof.AdMath.lean ====
/-
  Sums over a token's two choices, and the LoRA scale moved across a sum.
-/
module

public import proofs.«01_k».proof.Proof.AdSpec

@[expose] public section

noncomputable section

namespace Cert.AdSpec

open Idealize.ShloMosaic

/-- The LoRA scale times a sum, of any terms. -/
theorem two_mul_sum {ι : Type} (s : Finset ι) (f : ι → EReal) : two * ∑ k ∈ s, f k = ∑ k ∈ s, two * f k := by
  have h0 : (0 : EReal) ≤ two := by
    rw [show two = ((2 : ℝ) : EReal) from two_eq]
    exact_mod_cast (by norm_num : (0 : ℝ) ≤ 2)
  have h1 : two ≠ ⊤ := by
    rw [show two = ((2 : ℝ) : EReal) from two_eq]
    exact EReal.coe_ne_top 2
  exact map_sum (⟨⟨fun v => two * v, mul_zero _⟩, fun v w => EReal.left_distrib_of_nonneg_of_ne_top h0 h1 v w⟩ : EReal →+ EReal) f s

theorem cmpi_self (w : BitVec 32) : IntOp.cmpi .eq w w = 1#1 := by simp [IntOp.cmpi]

theorem cmpi_ne {v w : BitVec 32} (h : v ≠ w) : IntOp.cmpi .eq v w = 0#1 := by
  show BitVec.ofBool (v == w) = 0#1
  rw [beq_false_of_ne h]
  rfl

theorem select_one (v w : EReal) : Scalar.select 1#1 v w = v := rfl
theorem select_zero (v w : EReal) : Scalar.select 0#1 v w = w := rfl

theorem two_mul_add (v w : EReal) : two * (v + w) = two * v + two * w := by
  simpa [Fin.sum_univ_two] using two_mul_sum Finset.univ ![v, w]

/-- The value of the choice that is adapter `g`, read through both comparisons at once: two distinct choices are not the same adapter. -/
theorem gated (i0 i1 : BitVec 32) (h : i0 ≠ i1) (g : ℕ) (v0 v1 u : EReal) :
    Scalar.select (IntOp.ori (IntOp.cmpi .eq i0 (BitVec.ofNat 32 g)) (IntOp.cmpi .eq i1 (BitVec.ofNat 32 g)))
        (Scalar.select (IntOp.cmpi .eq i0 (BitVec.ofNat 32 g)) v0 v1 * u * two) 0
      = two * (chosen i0 g (v0 * u) + chosen i1 g (v1 * u)) := by
  unfold chosen
  generalize BitVec.ofNat 32 g = w at *
  by_cases h0 : i0 = w
  · have h1 : i1 ≠ w := fun h1 => h (h0.trans h1.symm)
    subst h0
    rw [cmpi_self, cmpi_ne h1, show IntOp.ori 1#1 0#1 = 1#1 from rfl]
    simp only [select_one, select_zero, add_zero]
    exact mul_comm _ _
  · rw [cmpi_ne h0]
    by_cases h1 : i1 = w
    · subst h1
      rw [cmpi_self, show IntOp.ori 0#1 1#1 = 1#1 from rfl]
      simp only [select_one, select_zero, zero_add]
      exact mul_comm _ _
    · rw [cmpi_ne h1, show IntOp.ori 0#1 0#1 = 0#1 from rfl]
      simp only [select_zero, add_zero, mul_zero]

/-- A choice's value, doubled and multiplied by `w`. -/
theorem chosen_two_mul (i : BitVec 32) (g : ℕ) (v w : EReal) :
    Scalar.select (IntOp.cmpi .eq i (BitVec.ofNat 32 g)) (v * two) 0 * w = two * chosen i g (v * w) := by
  unfold chosen
  generalize BitVec.ofNat 32 g = k at *
  by_cases h : i = k
  · subst h
    rw [cmpi_self]
    simp only [select_one]
    rw [mul_comm v, mul_assoc]
  · rw [cmpi_ne h]
    simp only [select_zero, zero_mul, mul_zero]

end Cert.AdSpec

end
-- ==== Proof.AdSum.lean ====
/-
  One point's contributions to the four results that do not read the quantiser, in terms of the arguments.
-/
module

public import proofs.«01_k».proof.Proof.AdRead
public import proofs.«01_k».proof.Proof.AdMath

@[expose] public section

set_option maxRecDepth 16384

noncomputable section

namespace Cert.AdapterIdeal.Val

open Cert.AdapterIdeal Cert.AdapterIdeal.Gen Idealize.ShloMosaic Idealize.ShloMosaic.TcCoe Idealize.SL.Sem
open Cert.AdSpec (two chosen hdot udot)

variable (m : (ℓ : Loc nD τ sig) → Buf (Elt Ideal) ℓ) (c : Dev nD) (t : Fin cfg0.N)

/-- Row `j` of the stacked adapters is rank `rk j` of adapter `ad j`. -/
def ad (j : Fin 320) : Fin 10 := ⟨j.val / 32, by omega⟩
def rk (j : Fin 320) : Fin 32 := ⟨j.val % 32, by omega⟩

theorem choice0_at (s : Fin 256) : choice0 m c t (ix2 (0 : Fin 1) s) = i m c (ix2 (tok t s) (0 : Fin 2)) := by
  rw [← read4]
  unfold choice0
  generalize iblk m c 4 t = v
  pointwise

theorem choice1_at (s : Fin 256) : choice1 m c t (ix2 (0 : Fin 1) s) = i m c (ix2 (tok t s) (1 : Fin 2)) := by
  rw [← read4]
  unfold choice1
  generalize iblk m c 4 t = v
  pointwise

theorem gate0_at (s : Fin 256) : gate0 m c t (ix2 (0 : Fin 1) s) = gt m c (ix2 (tok t s) (0 : Fin 2)) := by
  rw [← read5]
  unfold gate0
  generalize iblk m c 5 t = v
  pointwise

theorem gate1_at (s : Fin 256) : gate1 m c t (ix2 (0 : Fin 1) s) = gt m c (ix2 (tok t s) (1 : Fin 2)) := by
  rw [← read5]
  unfold gate1
  generalize iblk m c 5 t = v
  pointwise

theorem col0_at (s : Fin 256) : col0 m c t (ix2 s (0 : Fin 1)) = gt m c (ix2 (tok t s) (0 : Fin 2)) := by
  rw [← read6]
  unfold col0
  generalize iblk m c 6 t = v
  pointwise

theorem col1_at (s : Fin 256) : col1 m c t (ix2 s (0 : Fin 1)) = gt m c (ix2 (tok t s) (1 : Fin 2)) := by
  rw [← read6]
  unfold col1
  generalize iblk m c 6 t = v
  pointwise

theorem mask0_at (j : Fin 320) (s : Fin 256) :
    mask0 m c t (ix2 j s) = IntOp.cmpi .eq (i m c (ix2 (tok t s) (0 : Fin 2))) (BitVec.ofNat 32 (ad j).val) :=
  (pay8_at _ j s).trans (congrArg (fun w => IntOp.cmpi .eq w _) (choice0_at m c t s))

theorem mask1_at (j : Fin 320) (s : Fin 256) :
    mask1 m c t (ix2 j s) = IntOp.cmpi .eq (i m c (ix2 (tok t s) (1 : Fin 2))) (BitVec.ofNat 32 (ad j).val) :=
  (pay9_at _ j s).trans (congrArg (fun w => IntOp.cmpi .eq w _) (choice1_at m c t s))

theorem pay6_at (v : Vec Ideal S320x2560 .bf16) (w : Vec Ideal S256x2560 .bf16) (j : Fin 320) (s : Fin 256) :
    (k0_pay6 (F := Ideal) v w (ix2 j s) : EReal) = ∑ d : Fin 2560, (v (ix2 j d) : EReal) * (w (ix2 s d) : EReal) := by
  pointwise [k0_pay6]

theorem pay45_at (v : Vec Ideal S320x10240 .bf16) (w : Vec Ideal S256x10240 .bf16) (j : Fin 320) (s : Fin 256) :
    (k0_pay45 (F := Ideal) v w (ix2 j s) : EReal) = ∑ f : Fin 10240, (v (ix2 j f) : EReal) * (w (ix2 s f) : EReal) := by
  pointwise [k0_pay45]

theorem hs_at (j : Fin 320) (s : Fin 256) : (hs m c t (ix2 j s) : EReal) = hdot (x m c) (a m c) (tok t s) (ad j) (rk j) := by
  refine (pay6_at _ _ j s).trans (Finset.sum_congr rfl fun d _ => ?_)
  rw [mul_comm]
  exact congrArg₂ (fun p q : EReal => p * q) (read0 m c t s d) (read2 m c t j d)

theorem us_at (j : Fin 320) (s : Fin 256) : (us m c t (ix2 j s) : EReal) = udot (y m c) (b m c) (tok t s) (ad j) (rk j) := by
  refine (pay45_at _ _ j s).trans (Finset.sum_congr rfl fun f _ => ?_)
  rw [mul_comm]
  exact congrArg₂ (fun p q : EReal => p * q) (read1 m c t s f) (read3 m c t j f)

/-! ### The gated products -/

/-- The doubled gated product of row `j` and token `T`. -/
def gated (T : Fin 16384) (j : Fin 320) : EReal :=
  two * (chosen (i m c (ix2 T (0 : Fin 2))) (ad j).val ((gt m c (ix2 T (0 : Fin 2)) : EReal) * udot (y m c) (b m c) T (ad j) (rk j))
    + chosen (i m c (ix2 T (1 : Fin 2))) (ad j).val ((gt m c (ix2 T (1 : Fin 2)) : EReal) * udot (y m c) (b m c) T (ad j) (rk j)))

theorem pay1_at (m0 m1 : IVec S320x256 1) (u : FVec Ideal S320x256 .f32) (g0 g1 : Vec Ideal S1x256 .f32) (j : Fin 320) (s : Fin 256) :
    (k0_pay1 (F := Ideal) m0 m1 u g0 g1 (ix2 j s) : EReal)
      = Scalar.select (IntOp.ori (m0 (ix2 j s)) (m1 (ix2 j s)))
          ((Scalar.select (m0 (ix2 j s)) (g0 (ix2 (0 : Fin 1) s) : EReal) (g1 (ix2 (0 : Fin 1) s) : EReal)) * (u (ix2 j s) : EReal) * two : EReal) 0 := by
  pointwise [k0_pay1]

theorem pay2_at (m0 m1 : IVec S320x256 1) (u : FVec Ideal S320x256 .f32) (g0 g1 : Vec Ideal S1x256 .f32) (s : Fin 256) (j : Fin 320) :
    (k0_pay2 (F := Ideal) m0 m1 u g0 g1 (ix2 s j) : EReal) = k0_pay1 (F := Ideal) m0 m1 u g0 g1 (ix2 j s) := by
  pointwise [k0_pay2, k0_pay1]

theorem pay3_at (m0 m1 : IVec S320x256 1) (u : FVec Ideal S320x256 .f32) (g0 g1 : Vec Ideal S1x256 .f32) (p : Vec Ideal S320x2560 .f32)
    (v : Vec Ideal S256x2560 .bf16) (j : Fin 320) (d : Fin 2560) :
    (k0_pay3 (F := Ideal) m0 m1 u g0 g1 p v (ix2 j d) : EReal)
      = (p (ix2 j d) : EReal) + ∑ s : Fin 256, (k0_pay1 (F := Ideal) m0 m1 u g0 g1 (ix2 j s) : EReal) * (v (ix2 s d) : EReal) := by
  pointwise [k0_pay3, k0_pay1]

variable (hi : ∀ T : Fin 16384, i m c (ix2 T (0 : Fin 2)) ≠ i m c (ix2 T (1 : Fin 2)))
include hi

theorem pay1_gated (j : Fin 320) (s : Fin 256) :
    (k0_pay1 (F := Ideal) (mask0 m c t) (mask1 m c t) (us m c t) (gate0 m c t) (gate1 m c t) (ix2 j s) : EReal) = gated m c (tok t s) j := by
  rw [pay1_at, mask0_at, mask1_at, us_at, gate0_at, gate1_at, Cert.AdSpec.gated _ _ (hi _)]
  rfl

end Cert.AdapterIdeal.Val

end
-- ==== Proof.AdAcc.lean ====
/-
  The first call's accumulated results: the gradients of the adapters' two matrices.
-/
module

public import proofs.«01_k».proof.Proof.AdSum
public import Idealize.ShloMosaic.Lib.Pipeline.ValueKit
public import Idealize.ShloMosaic.Lib.Pipeline.ValueKit.Acc

@[expose] public section

set_option maxRecDepth 16384

noncomputable section

namespace Cert.AdapterIdeal.Val

open Cert.AdapterIdeal Cert.AdapterIdeal.Gen Idealize.ShloMosaic Idealize.ShloMosaic.TcCoe Idealize.SL.Sem
open Cert.AdSpec (two chosen hdot udot)

variable (m : (ℓ : Loc nD τ sig) → Buf (Elt Ideal) ℓ) (c : Dev nD)

theorem tok_div (t : Fin cfg0.N) (s : Fin 256) : (tok t s).val = t.val * 256 + s.val := rfl

/-- The tokens are the points' rows. -/
theorem sum_tok (f : Fin 16384 → EReal) : ∑ t : Fin cfg0.N, ∑ s : Fin 256, f (tok t s) = ∑ T : Fin 16384, f T :=
  Fin.sum_mul_add_fin (M := EReal) 64 256 f

theorem pay4_at (j : S320x2560.Idx) : (k0_pay4 (F := Ideal) j : EReal) = 0 := by
  pointwise [k0_pay4]

theorem pay5_at (j : S320x10240.Idx) : (k0_pay5 (F := Ideal) j : EReal) = 0 := by
  pointwise [k0_pay5]

theorem pay10_lo (h : FVec Ideal S320x256 .f32) (m0 m1 : IVec S320x256 1) (j : Fin 320) (s : Fin 256) :
    (k0_pay10 (F := Ideal) h m0 m1 (ix2 j (⟨s.val, by omega⟩ : Fin 512)) : EReal)
      = Scalar.select (m0 (ix2 j s)) ((h (ix2 j s) : EReal) * two : EReal) 0 := by
  pointwise [k0_pay10]

theorem pay10_hi (h : FVec Ideal S320x256 .f32) (m0 m1 : IVec S320x256 1) (j : Fin 320) (s : Fin 256) :
    (k0_pay10 (F := Ideal) h m0 m1 (ix2 j (⟨256 + s.val, by omega⟩ : Fin 512)) : EReal)
      = Scalar.select (m1 (ix2 j s)) ((h (ix2 j s) : EReal) * two : EReal) 0 := by
  pointwise [k0_pay10]

/-- Token `T`'s part in the second matrices' gradient, by its choice `k`. -/
def dbTerm (k : Fin 2) (T : Fin 16384) (j : Fin 320) (f : Fin 10240) : EReal :=
  two * chosen (i m c (ix2 T k)) (ad j).val (hdot (x m c) (a m c) T (ad j) (rk j) * ((gt m c (ix2 T k) : EReal) * (y m c (ix2 T f) : EReal)))

theorem dbPart_at (t : Fin cfg0.N) (j : Fin 320) (f : Fin 10240) :
    dbPart (k0_pay10 (hs m c t) (mask0 m c t) (mask1 m c t)) (col0 m c t) (col1 m c t) (iblk m c 1 t) j f
      = ∑ s : Fin 256, dbTerm m c 0 (tok t s) j f + ∑ s : Fin 256, dbTerm m c 1 (tok t s) j f := by
  unfold dbPart
  refine congrArg₂ (fun p q : EReal => p + q) (Finset.sum_congr rfl fun s _ => ?_) (Finset.sum_congr rfl fun s _ => ?_)
  · rw [pay10_lo, mask0_at, hs_at, col0_at, Cert.AdSpec.chosen_two_mul]
    exact congrArg (fun v : EReal => two * chosen _ _ (_ * (_ * v))) (read1 m c t s f)
  · rw [pay10_hi, mask1_at, hs_at, col1_at, Cert.AdSpec.chosen_two_mul]
    exact congrArg (fun v : EReal => two * chosen _ _ (_ * (_ * v))) (read1 m c t s f)

/-- The second matrices' gradient after the last point. -/
theorem db_last (t : Fin cfg0.N) (ht : t.val + 1 = cfg0.N) (j : Fin 320) (f : Fin 10240) :
    ((outsAt0 m c t.val t.isLt).2.2.2.2.2 (ix2 j f) : EReal) = Cert.AdSpec.dB (x m c) (y m c) (a m c) (i m c) (gt m c) (ad j) f (rk j) := by
  have h := Pipeline.eq_sum_fin_of_reset_step_apply_last (M := EReal)
    (fun n hn (j : Fin 320 × Fin 10240) => ((outsAt0 m c n hn).2.2.2.2.2 (ix2 j.1 j.2) : EReal)) 64 (fun _ => 0)
    (fun t j => ∑ s : Fin 256, dbTerm m c 0 (tok t s) j.1 j.2 + ∑ s : Fin 256, dbTerm m c 1 (tok t s) j.1 j.2)
    (fun t h j => by
      show ((outsAt0 m c t.val t.isLt).2.2.2.2.2 (ix2 j.1 j.2) : EReal) = _
      rw [db_first m c t h, ← dbPart_at]
      show ((k0_pay5 (F := Ideal) (ix2 j.1 j.2) : EReal) + _ : EReal) = _
      rw [pay5_at]
      rfl)
    (fun t h j => by
      show ((outsAt0 m c t.val t.isLt).2.2.2.2.2 (ix2 j.1 j.2) : EReal) = _
      rw [db_next m c t h, ← dbPart_at]
      rfl)
    (le_of_eq N_0) t ht (j, f)
  refine h.trans ?_
  rw [zero_add, Finset.sum_add_distrib, sum_tok (fun T => dbTerm m c 0 T j f), sum_tok (fun T => dbTerm m c 1 T j f)]
  unfold Cert.AdSpec.dB
  rw [Fin.sum_univ_two, Cert.AdSpec.two_mul_add, Cert.AdSpec.two_mul_sum, Cert.AdSpec.two_mul_sum]
  rfl

variable (hi : ∀ T : Fin 16384, i m c (ix2 T (0 : Fin 2)) ≠ i m c (ix2 T (1 : Fin 2)))
include hi

/-- The first matrices' gradient after the last point. -/
theorem da_last (t : Fin cfg0.N) (ht : t.val + 1 = cfg0.N) (j : Fin 320) (d : Fin 2560) :
    ((outsAt0 m c t.val t.isLt).2.2.2.2.1 (ix2 j d) : EReal) = Cert.AdSpec.dA (x m c) (y m c) (b m c) (i m c) (gt m c) (ad j) (rk j) d := by
  have h := Pipeline.eq_sum_fin_of_reset_step_apply_last (M := EReal)
    (fun n hn (j : Fin 320 × Fin 2560) => ((outsAt0 m c n hn).2.2.2.2.1 (ix2 j.1 j.2) : EReal)) 64 (fun _ => 0)
    (fun t j => ∑ s : Fin 256, gated m c (tok t s) j.1 * (x m c (ix2 (tok t s) j.2) : EReal))
    (fun t h j => by
      show ((outsAt0 m c t.val t.isLt).2.2.2.2.1 (ix2 j.1 j.2) : EReal) = _
      rw [da_first m c t h, pay3_at, pay4_at]
      refine congrArg (fun v : EReal => 0 + v) (Finset.sum_congr rfl fun s _ => ?_)
      rw [pay1_gated m c t hi]
      exact congrArg (fun v : EReal => _ * v) (read0 m c t s j.2))
    (fun t h j => by
      show ((outsAt0 m c t.val t.isLt).2.2.2.2.1 (ix2 j.1 j.2) : EReal) = _
      rw [da_next m c t h, pay3_at]
      refine congrArg (fun v : EReal => _ + v) (Finset.sum_congr rfl fun s _ => ?_)
      rw [pay1_gated m c t hi]
      exact congrArg (fun v : EReal => _ * v) (read0 m c t s j.2))
    (le_of_eq N_0) t ht (j, d)
  refine h.trans ?_
  rw [zero_add, sum_tok (fun T => gated m c T j * (x m c (ix2 T d) : EReal))]
  unfold Cert.AdSpec.dA
  rw [Cert.AdSpec.two_mul_sum]
  refine Finset.sum_congr rfl fun T _ => ?_
  rw [Fin.sum_univ_two, ← mul_assoc]
  rfl

end Cert.AdapterIdeal.Val

end
-- ==== Proof.AdFinal.lean ====
/-
  The first call's results, as the arrays hold them after the last point.
-/
module

public import proofs.«01_k».proof.Proof.AdAcc
public import Idealize.ShloMosaic.Lib.Pipeline.ValueKit
public import Idealize.ShloMosaic.Lib.Pipeline.ValueKit.Acc

@[expose] public section

set_option maxRecDepth 16384

noncomputable section

namespace Cert.AdapterIdeal.Val

open Cert.AdapterIdeal Cert.AdapterIdeal.Gen Idealize.ShloMosaic Idealize.ShloMosaic.TcCoe Idealize.SL.Sem
open Cert.AdSpec (two chosen hdot udot word expo)

variable (m : (ℓ : Loc nD τ sig) → Buf (Elt Ideal) ℓ) (c : Dev nD)

/-! ### The gradients of the two matrices -/

theorem final_db : (dats m 0 c).arrAt 12 (cfgs 0).N
    = fun j => Cert.AdSpec.dB (x m c) (y m c) (a m c) (i m c) (gt m c) (ad (j 0)) (j 1) (rk (j 0)) := by
  refine (dats m 0 c).arrAt_eq_of_covers 12 _ (by decide +kernel) fun t hf y => ?_
  have ht : t.val + 1 = cfg0.N := by
    have := (flush0_12 t).mp hf
    have hN : cfg0.N = 64 := N_0
    omega
  blk_simp
  rw [after0_12]
  idx_vars y
  refine (db_last m c t ht y0 y1).trans (congrArg₂ (fun (j : Fin 320) (f : Fin 10240) =>
    Cert.AdSpec.dB (x m c) (y m c) (a m c) (i m c) (gt m c) (ad j) f (rk j)) (Fin.ext ?_) (Fin.ext ?_))
  · blk_simp [idx t]
  · blk_simp [idx t]

/-! ### The gates' gradient -/

theorem pay46_at (h : FVec Ideal S320x256 .f32) (m0 m1 : IVec S320x256 1) (v : Vec Ideal S320x10240 .bf16) (w : Vec Ideal S256x10240 .bf16) (k : Fin 2) (s : Fin 256) :
    (k0_pay46 (F := Ideal) h m0 m1 v w (ix2 k s) : EReal)
      = two * ∑ j : Fin 320, Scalar.select (if k.val < 1 then m0 (ix2 j s) else m1 (ix2 j s))
          ((k0_pay45 (F := Ideal) v w (ix2 j s) : EReal) * (h (ix2 j s) : EReal) : EReal) 0 := by
  pointwise [k0_pay46]
  split <;> rfl

theorem dgate_at (t : Fin cfg0.N) (k : Fin 2) (s : Fin 256) :
    ((outsAt0 m c t.val t.isLt).2.2.2.1 (ix2 k s) : EReal) = Cert.AdSpec.dgate (x m c) (y m c) (a m c) (b m c) (i m c) (tok t s) k := by
  have hk : ∀ j : Fin 320, (if k.val < 1 then mask0 m c t (ix2 j s) else mask1 m c t (ix2 j s))
      = IntOp.cmpi .eq (i m c (ix2 (tok t s) k)) (BitVec.ofNat 32 (ad j).val) := by
    intro j
    rw [mask0_at, mask1_at]
    fin_cases k <;> rfl
  rw [dgate_out, pay46_at]
  unfold Cert.AdSpec.dgate
  refine congrArg (fun v : EReal => two * v) ?_
  rw [Fin.sum_univ_tiles (N := 320) 10 32 (by norm_num)]
  refine Finset.sum_congr rfl fun g _ => Finset.sum_congr rfl fun r _ => ?_
  have hg : ad ⟨g.val * 32 + r.val, by omega⟩ = g := Fin.ext (by show (g.val * 32 + r.val) / 32 = g.val; omega)
  have hr : rk ⟨g.val * 32 + r.val, by omega⟩ = r := Fin.ext (by show (g.val * 32 + r.val) % 32 = r.val; omega)
  rw [hk, hs_at, show (k0_pay45 (F := Ideal) (iblk m c 3 t) (iblk m c 1 t) (ix2 (⟨g.val * 32 + r.val, by omega⟩ : Fin 320) s) : EReal) = _ from us_at m c t _ s, hg, hr]
  rfl

theorem final_dgate : (dats m 0 c).arrAt 10 (cfgs 0).N
    = fun j => Cert.AdSpec.dgate (x m c) (y m c) (a m c) (b m c) (i m c) (j 1) (j 0) := by
  refine (dats m 0 c).arrAt_eq_of_covers 10 _ (by decide +kernel) fun t hf y => ?_
  blk_simp
  rw [after0_10]
  idx_vars y
  refine (dgate_at m c t y0 y1).trans (congrArg₂ (Cert.AdSpec.dgate _ _ _ _ _) (Fin.ext ?_) (Fin.ext ?_))
  · blk_simp [idx t, tok]
  · blk_simp [idx t, tok]

/-! ### The two results that read a token's two choices together -/

section
variable (hi : ∀ T : Fin 16384, i m c (ix2 T (0 : Fin 2)) ≠ i m c (ix2 T (1 : Fin 2)))
include hi

theorem final_da : (dats m 0 c).arrAt 11 (cfgs 0).N
    = fun j => Cert.AdSpec.dA (x m c) (y m c) (b m c) (i m c) (gt m c) (ad (j 0)) (rk (j 0)) (j 1) := by
  refine (dats m 0 c).arrAt_eq_of_covers 11 _ (by decide +kernel) fun t hf y => ?_
  have ht : t.val + 1 = cfg0.N := by
    have := (flush0_11 t).mp hf
    have hN : cfg0.N = 64 := N_0
    omega
  blk_simp
  rw [after0_11]
  idx_vars y
  refine (da_last m c hi t ht y0 y1).trans (congrArg₂ (fun (j : Fin 320) (d : Fin 2560) =>
    Cert.AdSpec.dA (x m c) (y m c) (b m c) (i m c) (gt m c) (ad j) (rk j) d) (Fin.ext ?_) (Fin.ext ?_))
  · blk_simp [idx t]
  · blk_simp [idx t]

theorem gus_at (T : Fin 16384) (j : Fin 320) : gated m c T j = Cert.AdSpec.gus (y m c) (b m c) (i m c) (gt m c) T j := by
  unfold gated Cert.AdSpec.gus
  rw [Fin.sum_univ_two]
  rfl

theorem final_gus : (dats m 0 c).arrAt 9 (cfgs 0).N
    = fun j => Cert.AdSpec.gus (y m c) (b m c) (i m c) (gt m c) (j 0) (j 1) := by
  refine (dats m 0 c).arrAt_eq_of_covers 9 _ (by decide +kernel) fun t hf y => ?_
  blk_simp
  rw [after0_9, gu_out]
  idx_vars y
  refine (pay2_at _ _ _ _ _ y0 y1).trans ((pay1_gated m c t hi y1 y0).trans ((gus_at m c hi _ _).trans
    (congrArg₂ (Cert.AdSpec.gus _ _ _ _) (Fin.ext ?_) (Fin.ext ?_))))
  · blk_simp [idx t, tok]
  · blk_simp [idx t, tok]

end

/-! ### The quantiser -/

theorem quot_at (t : Fin cfg0.N) (s : Fin 256) (l : Fin 128) :
    (k0_pay11 (F := Ideal) (iblk m c 1 t) (ix2 s l) : EReal) = Cert.AdSpec.quot (y m c) (tok t s) := by
  rw [pay11_at]
  unfold Cert.AdSpec.quot
  have h0 : Ideal.ofBits .bf16 0xFF80#16 = Ideal.ofBits .f32 0xFF800000#32 := by
    simp [Ideal.ofBits, Ideal.ieee]
  rw [h0]
  refine congrArg (fun v : EReal => v * _) ?_
  refine congrArg (fun f => Finset.fold max _ f Finset.univ) (funext fun f => ?_)
  exact congrArg (FloatOps.absf (F := Ideal)) (read1 m c t s f)

/-- Every token's quotient is a real number, zero or a normal float, and not too great. -/
def Tame (y : FVec Ideal S16384x10240 .bf16) : Prop :=
  ∀ T : Fin 16384, ∃ q : ℝ, Cert.AdSpec.quot y T = (q : EReal) ∧ (q = 0 ∨ (2 : ℝ) ^ (-126 : ℤ) ≤ q) ∧ q < (2 : ℝ) ^ (125 : ℤ)

variable (hq : Tame (y m c))
include hq

theorem final_lanes : (dats m 0 c).arrAt 8 (cfgs 0).N = fun j => Cert.AdSpec.scale (y m c) (j 0) := by
  refine (dats m 0 c).arrAt_eq_of_covers 8 _ (by decide +kernel) fun t hf y => ?_
  blk_simp
  rw [after0_8, scale_out]
  idx_vars y
  obtain ⟨q, hq1, hq2, hq3⟩ := hq (tok t y0)
  rw [quot_at, hq1, (Cert.AdSpec.scale_inv hq2 hq3).1, ← hq1, ← Cert.AdSpec.two_eq]
  refine congrArg (Cert.AdSpec.scale _) (Fin.ext ?_)
  blk_simp [idx t, tok]

theorem final_codes : (dats m 0 c).arrAt 7 (cfgs 0).N = fun j => Cert.AdSpec.codes (y m c) (j 0) (j 1) := by
  refine (dats m 0 c).arrAt_eq_of_covers 7 _ (by decide +kernel) fun t hf y => ?_
  blk_simp
  rw [after0_7, codes_out]
  idx_vars y
  obtain ⟨q, hq1, hq2, hq3⟩ := hq (tok t y0)
  have hp : (k0_pay17 (F := Ideal) (vexpo (k0_pay11 (iblk m c 1 t))) (ix2 y0 0) : EReal) = Cert.AdSpec.inv (Val.y m c) (tok t y0) := by
    rw [pay17_at, vexpo_at, quot_at, hq1, (Cert.AdSpec.scale_inv hq2 hq3).2, ← hq1, ← Cert.AdSpec.two_eq]
    rfl
  have hc : codesOf (vexpo (k0_pay11 (iblk m c 1 t))) (iblk m c 1 t) (ix2 y0 y1) = Cert.AdSpec.codes (Val.y m c) (tok t y0) y1 := by
    unfold codesOf Cert.AdSpec.codes
    refine congrArg (fun v : EReal => min (Ideal.ofBits .f32 0x47600000#32) (max (Ideal.ofBits .f32 0xC7600000#32) v)) ?_
    exact congrArg₂ (fun p q : EReal => p * q) (read1 m c t y0 y1) hp
  refine hc.trans (congrArg₂ (Cert.AdSpec.codes _) (Fin.ext ?_) (Fin.ext ?_))
  · blk_simp [idx t, tok]
  · blk_simp [idx t, tok]

end Cert.AdapterIdeal.Val

end
-- ==== Proof.AdRefValue.lean ====
/-
  The reference of the kernel's first call at the ideal instance: each of its result arrays is the formula of `Cert.AdSpec` at its arguments.
-/
module

public import proofs.«01_k».proof.Proof.Gen.AdapterRefIdeal.Frame
public import proofs.«01_k».proof.Proof.AdSpec
public import Idealize.ShloMosaic.Lib.Pipeline.ValueKit
public import Idealize.ShloMosaic.Lib.StableHlo.ReadAt

@[expose] public section

set_option maxRecDepth 16384

noncomputable section

namespace Cert.AdapterRefIdeal.Val

open Cert.AdapterRefIdeal Cert.AdapterRefIdeal.Gen Idealize.ShloMosaic Idealize.ShloMosaic.TcCoe Idealize.SL.Sem
open Idealize.ShloMosaic.Pipeline (Dat)

variable (m : (ℓ : Loc nD τ sig) → Buf (Elt Ideal) ℓ) (c : Dev nD)

abbrev x := m ((c : Thread nD τ).loc main_arg0)
abbrev y := m ((c : Thread nD τ).loc main_arg1)
abbrev a := m ((c : Thread nD τ).loc main_arg2)
abbrev b := m ((c : Thread nD τ).loc main_arg3)
abbrev i := m ((c : Thread nD τ).loc main_arg4)
abbrev gt := m ((c : Thread nD τ).loc main_arg5)

/-- The gradient of the adapters' first matrices. -/
theorem V_dA (g : Fin 10) (r : Fin 32) (d : Fin 2560) :
    V m c main_v58 (ix3 g r d) = Cert.AdSpec.dA (x m c) (y m c) (b m c) (i m c) (gt m c) g r d := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  rfl

/-- The gradient of the adapters' second matrices. -/
theorem V_dB (g : Fin 10) (f : Fin 10240) (r : Fin 32) :
    V m c main_v46 (ix3 g f r) = Cert.AdSpec.dB (x m c) (y m c) (a m c) (i m c) (gt m c) g f r := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  rfl

/-- The gradient of the gates. -/
theorem V_dgate (t : Fin 16384) (k : Fin 2) :
    V m c main_v33 (ix2 t k) = Cert.AdSpec.dgate (x m c) (y m c) (a m c) (b m c) (i m c) t k := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  have h0 : (id (constant (F := Ideal) S_ .f32 0x00000000#32) : FVec Ideal S_ .f32) ix0 = 0 := by
    show constant (F := Ideal) S_ .f32 0x00000000#32 ix0 = 0
    pointwise
  simp only [h0]
  rfl

/-- The gated products. -/
theorem V_gus (t : Fin 16384) (j : Fin 320) :
    V m c main_v64 (ix2 t j) = Cert.AdSpec.gus (y m c) (b m c) (i m c) (gt m c) t j := by
  simp only [V, hostOps0, hostOps0_1, hostOps0_2, hostOps0_3, hostOps0_4, hostOps0_5, hostOps0_6, hostOps0_7, hostOps0_8, List.flatten_cons, List.flatten_nil, List.append_nil, List.cons_append, List.nil_append]
  after_reads_at
  rfl

end Cert.AdapterRefIdeal.Val

end
-- ==== Proof.AdRefScale.lean ====
/-
  The reference's quantiser at the ideal instance: the scale, the scale in every lane, and the codes.
-/
module

public import proofs.«01_k».proof.Proof.Gen.AdapterRefIdeal.Frame
public import proofs.«01_k».proof.Proof.AdRefValue
public import Idealize.ShloMosaic.Lib.Pipeline.ValueKit
public import Idealize.ShloMosaic.Lib.StableHlo.ReadAt

@[expose] public section

set_option maxRecDepth 16384

noncomputable section

namespace Cert.AdapterRefIdeal.Val

open Cert.AdapterRefIdeal Cert.AdapterRefIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The buffers after the host lines that compute the quotient. -/
def quotState : Valuation τ sig (Elt Ideal) := StableHlo.after ((hostOps0 (F := Ideal)).take 7) fun b => m (c, b)

/-- The host lines after them. -/
abbrev laterOps : List (HloOp τ sig (Elt Ideal)) :=
  (hostOps0.drop 7) ++ List.flatten [hostOps0_1, hostOps0_2, hostOps0_3, hostOps0_4, hostOps0_5, hostOps0_6, hostOps0_7, hostOps0_8]

theorem V_later (r : Ref sig .tc) : V m c r = StableHlo.after laterOps (quotState m c) r := rfl

/-- The greatest entry of each row. -/
theorem reduce_row (v : FVec Ideal S16384x10240 .f32) (t : Fin 16384) :
    Host.reduce FloatOps.maximumf v (constant S_ .f32 0xFF800000#32) reducesTo_S16384x10240_S16384_d1 h_S_ (ix1 t)
      = Finset.fold max (Ideal.ofBits .f32 0xFF800000#32) (fun k => v (ix2 t k)) Finset.univ := by
  pointwise

theorem absf_at (v : FVec Ideal S16384x10240 .bf16) (t : Fin 16384) (k : Fin 10240) :
    Host.absf (extf .f32 v bitsLt_bf16_f32) (ix2 t k) = FloatOps.absf (v (ix2 t k)) := by
  pointwise
  rfl

theorem mulf_at (v w : FVec Ideal S16384 .f32) (t : Fin 16384) : mulf v w (ix1 t) = (v (ix1 t) : EReal) * w (ix1 t) := by
  pointwise

theorem const_at (w : BitVec 32) (t : Fin 16384) :
    broadcastInDim S16384 ![] bcast_S_S16384 (constant (F := Ideal) S_ .f32 w) (ix1 t) = Ideal.ofBits .f32 w := by
  pointwise

/-- The quotient the scale is read from, of any gradient. -/
theorem quot_at (v : FVec Ideal S16384x10240 .bf16) (t : Fin 16384) :
    mulf (Host.reduce FloatOps.maximumf (Host.absf (extf .f32 v bitsLt_bf16_f32)) (constant S_ .f32 0xFF800000#32) reducesTo_S16384x10240_S16384_d1 h_S_)
      (broadcastInDim S16384 ![] bcast_S_S16384 (constant S_ .f32 0x37924925#32)) (ix1 t) = Cert.AdSpec.quot v t := by
  rw [mulf_at, reduce_row, const_at]
  simp only [absf_at]
  rfl

/-- The quotient the scale is read from. -/
theorem quotState_v4 (t : Fin 16384) : quotState m c main_v4 (ix1 t) = Cert.AdSpec.quot (y m c) t := by
  have h : @Eq (FVec Ideal S16384 .f32) (quotState m c main_v4)
      (mulf (Host.reduce FloatOps.maximumf (Host.absf (extf .f32 (y m c) bitsLt_bf16_f32)) (constant S_ .f32 0xFF800000#32) reducesTo_S16384x10240_S16384_d1 h_S_)
        (broadcastInDim S16384 ![] bcast_S_S16384 (constant S_ .f32 0x37924925#32))) := by
    simp only [quotState, hostOps0, List.take_succ_cons, List.take_zero]
    after_reads_simp
  exact (congrFun h (ix1 t)).trans (quot_at _ t)

/-- The exponent as the lines compute it. -/
theorem expo_lines (q : EReal) :
    (if q = 0 then (id (constant (F := Ideal) S_ .f32 0x00000000#32) : FVec Ideal S_ .f32) ix0
      else Ideal.liftRound Int.floor (Ideal.div (Ideal.log q) (Ideal.log (Ideal.ofBits .f32 0x40000000#32))) + 1) = Cert.AdSpec.expoRef q := by
  have h0 : (id (constant (F := Ideal) S_ .f32 0x00000000#32) : FVec Ideal S_ .f32) ix0 = 0 := by
    show constant (F := Ideal) S_ .f32 0x00000000#32 ix0 = 0
    pointwise
  rw [h0, Cert.AdSpec.two_eq]
  rfl

/-- The scale, of the quotient. -/
theorem scale_later (σ : Valuation τ sig (Elt Ideal)) (t : Fin 16384) :
    StableHlo.after laterOps σ main_v15 (ix1 t) = Ideal.pow Cert.AdSpec.two (Cert.AdSpec.expoRef (σ main_v4 (ix1 t))) := by
  simp only [laterOps, hostOps0, hostOps0_1, hostOps0_2, hostOps0_3, hostOps0_4, hostOps0_5, hostOps0_6, hostOps0_7, hostOps0_8, List.drop_succ_cons, List.drop_zero, List.flatten_cons, List.flatten_nil, List.append_nil, List.cons_append, List.nil_append]
  after_reads_at
  exact congrArg (Ideal.pow _) (expo_lines _)

theorem scale_lanes (σ : Valuation τ sig (Elt Ideal)) (t : Fin 16384) (l : Fin 128) :
    StableHlo.after laterOps σ main_v66 (ix2 t l) = Ideal.pow Cert.AdSpec.two (Cert.AdSpec.expoRef (σ main_v4 (ix1 t))) := by
  simp only [laterOps, hostOps0, hostOps0_1, hostOps0_2, hostOps0_3, hostOps0_4, hostOps0_5, hostOps0_6, hostOps0_7, hostOps0_8, List.drop_succ_cons, List.drop_zero, List.flatten_cons, List.flatten_nil, List.append_nil, List.cons_append, List.nil_append]
  after_reads_at
  exact congrArg (Ideal.pow _) (expo_lines _)

theorem inv_later (σ : Valuation τ sig (Elt Ideal)) (t : Fin 16384) (l : Fin 1) :
    StableHlo.after laterOps σ main_v18 (ix2 t l) = Ideal.pow Cert.AdSpec.two (-(Cert.AdSpec.expoRef (σ main_v4 (ix1 t)))) := by
  simp only [laterOps, hostOps0, hostOps0_1, hostOps0_2, hostOps0_3, hostOps0_4, hostOps0_5, hostOps0_6, hostOps0_7, hostOps0_8, List.drop_succ_cons, List.drop_zero, List.flatten_cons, List.flatten_nil, List.append_nil, List.cons_append, List.nil_append]
  after_reads_at
  exact congrArg (fun e : EReal => Ideal.pow _ (-e)) (expo_lines _)

theorem V_scale (t : Fin 16384) : V m c main_v15 (ix1 t) = Cert.AdSpec.scale (y m c) t := by
  rw [V_later, scale_later, quotState_v4]
  rfl

theorem V_lanes (t : Fin 16384) (l : Fin 128) : V m c main_v66 (ix2 t l) = Cert.AdSpec.scale (y m c) t := by
  rw [V_later, scale_lanes, quotState_v4]
  rfl

theorem V_inv (t : Fin 16384) (l : Fin 1) : V m c main_v18 (ix2 t l) = Cert.AdSpec.inv (y m c) t := by
  rw [V_later, inv_later, quotState_v4]
  rfl

/-- The one point's blocks are the whole arrays: every block index is zero. -/
theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

/-- The block of the reciprocals, at a token. -/
theorem iblk1 (t : Fin 16384) (l : Fin 1) : iblk m c 1 t0_0 (ix2 t l) = Cert.AdSpec.inv (y m c) t := by
  have h : ∀ W : (r : Ref sig .tc) → Buf (Elt Ideal) ((c : Thread nD τ).loc r),
      ((cfg0.win 1).blk t0_0).view.read (Elt Ideal) (W (Pipeline.arrRef spec0 1)) (ix2 t l) = W main_v18 (ix2 t l) := by
    intro W
    blk_ext [idx t0_0]
  unfold iblk
  rw [h (V m c)]
  exact V_inv m c t l

/-- The block of the gradient. -/
theorem iblk0 (t : Fin 16384) (f : Fin 10240) : iblk m c 0 t0_0 (ix2 t f) = y m c (ix2 t f) := by
  blk_ext [iblk, V_main_arg1, idx t0_0]

/-- The codes, of any gradient and reciprocals. -/
theorem codes_at (p : FVec Ideal S16384x10240 .bf16) (q : FVec Ideal S16384x1 .f32) (t : Fin 16384) (f : Fin 10240) :
    (k0_pay1 (F := Ideal) p q (ix2 t f) : EReal) = min (Ideal.ofBits .f32 0x47600000#32) (max (Ideal.ofBits .f32 0xC7600000#32) ((p (ix2 t f) : EReal) * (q (ix2 t 0) : EReal))) := by
  pointwise [k0_pay1]

/-- The codes after the run, index by index. -/
theorem final : (dats m 0 c).arrAt 2 (cfgs 0).N = fun j => Cert.AdSpec.codes (y m c) (j 0) (j 1) := by
  refine (dats m 0 c).arrAt_eq_of_after_last 2 t0_0 (by decide +kernel) _ fun j => ?_
  blk_simp
  rw [after0_2]
  frame_out
  idx_vars j
  rw [codes_at, iblk1, iblk0]
  unfold Cert.AdSpec.codes
  rfl

end Cert.AdapterRefIdeal.Val

end
-- ==== Proof.AdPre.lean ====
/-
  What the precondition says of the first call's arguments: a token's two choices differ, and every token's quotient is a real number that is zero
  or a normal float, and not too great.
-/
module

public import proofs.«01_k».proof.Defs
public import proofs.«01_k».proof.Proof.Gen.Pre_tame
public import proofs.«01_k».proof.Proof.AdFinal
public import proofs.«01_k».proof.Proof.AdRefScale
public import Idealize.ShloMosaic.Lib.Pipeline.ValueKit

@[expose] public section

set_option maxRecDepth 16384

noncomputable section

namespace Cert.Pre_tame.Val

open Cert.Pre_tame Cert.Pre_tame.Facts Idealize.ShloMosaic

/-- A conjunction of bits is one only if each is. -/
theorem fold_andi {ι : Type} (s : Finset ι) (f : ι → BitVec 1) (h : s.fold IntOp.andi 1#1 f = 1#1) : ∀ k ∈ s, f k = 1#1 := by
  classical
  induction s using Finset.induction_on with
  | empty => exact fun k hk => absurd hk (Finset.notMem_empty k)
  | insert a s ha ih =>
    rw [Finset.fold_insert ha] at h
    have h2 : ∀ p q : BitVec 1, IntOp.andi p q = 1#1 → p = 1#1 ∧ q = 1#1 := by decide
    obtain ⟨h0, h1⟩ := h2 _ _ h
    intro k hk
    rcases Finset.mem_insert.mp hk with rfl | hk
    · exact h0
    · exact ih h1 k hk

theorem fold_univ {ι : Type} [Fintype ι] (f : ι → BitVec 1) (h : Finset.univ.fold IntOp.andi 1#1 f = 1#1) (k : ι) : f k = 1#1 :=
  fold_andi _ f h k (Finset.mem_univ k)

theorem reduce_rows (v : IVec S16384 1) :
    Host.reduce IntOp.andi v (constantI S_ 1 1#1) reducesTo_S16384_S_d0 h_S_ ix0 = Finset.fold IntOp.andi 1#1 (fun k => v (ix1 k)) Finset.univ := by
  pointwise

theorem reduce_all (v : IVec S16384x10240 1) :
    Host.reduce IntOp.andi v (constantI S_ 1 1#1) reducesTo_S16384x10240_S_d0_1 h_S_ ix0
      = Finset.fold IntOp.andi 1#1 (fun k : Fin 16384 × Fin 10240 => v (ix2 k.1 k.2)) Finset.univ := by
  pointwise

variable (x : FVec Ideal S16384x2560 .bf16) (y : FVec Ideal S16384x10240 .bf16) (a : FVec Ideal S10x32x2560 .bf16)
  (b : FVec Ideal S10x10240x32 .bf16) (i : IVec S16384x2 32) (gt : FVec Ideal S16384x2 .f32)

/-- The three conditions, each at every place. -/
def differ : IVec S16384 1 :=
  cmpi .ne (shapeCast S16384 (extractStridedSlice S16384x1 ![0, 0] i slices_S16384x2_S16384x1_0_0) shapeCasts_S16384x1_S16384)
    (shapeCast S16384 (extractStridedSlice S16384x1 ![0, 1] i slices_S16384x2_S16384x1_0_1) shapeCasts_S16384x1_S16384)

def finite : IVec S16384x10240 1 :=
  cmpf .ole (Host.absf (extf .f32 y bitsLt_bf16_f32)) (broadcastInDim S16384x10240 ![] bcast_S_S16384x10240 (constant (F := Ideal) S_ .f32 0x7F7F0000#32))

def quots : FVec Ideal S16384 .f32 :=
  mulf (Host.reduce FloatOps.maximumf (Host.absf (extf .f32 y bitsLt_bf16_f32)) (constant S_ .f32 0xFF800000#32) reducesTo_S16384x10240_S16384_d1 h_S_)
    (broadcastInDim S16384 ![] bcast_S_S16384 (constant S_ .f32 0x37924925#32))

def normal (q : FVec Ideal S16384 .f32) : IVec S16384 1 :=
  ori (cmpf .oeq q (broadcastInDim S16384 ![] bcast_S_S16384 (constant (F := Ideal) S_ .f32 0x00000000#32)))
    (cmpf .oge q (broadcastInDim S16384 ![] bcast_S_S16384 (constant (F := Ideal) S_ .f32 0x00800000#32)))

theorem fn_eq : fn x y a b i gt = andi (andi (Host.reduce IntOp.andi (differ i) (constantI S_ 1 1#1) reducesTo_S16384_S_d0 h_S_)
      (Host.reduce IntOp.andi (finite y) (constantI S_ 1 1#1) reducesTo_S16384x10240_S_d0_1 h_S_))
    (Host.reduce IntOp.andi (normal (quots y)) (constantI S_ 1 1#1) reducesTo_S16384_S_d0 h_S_) := rfl

theorem parts (h : fn x y a b i gt = fun _ => 1#1) : (∀ T, differ i (ix1 T) = 1#1) ∧ (∀ T f, finite y (ix2 T f) = 1#1) ∧ ∀ T, normal (quots y) (ix1 T) = 1#1 := by
  rw [fn_eq] at h
  have h0 := congrFun h ix0
  rw [andi_apply, andi_apply, reduce_rows, reduce_all, reduce_rows] at h0
  have h2 : ∀ p q : BitVec 1, IntOp.andi p q = 1#1 → p = 1#1 ∧ q = 1#1 := by decide
  obtain ⟨h01, h02⟩ := h2 _ _ h0
  obtain ⟨h00, h01⟩ := h2 _ _ h01
  exact ⟨fold_univ _ h00, fun T f => fold_univ _ h01 (T, f), fold_univ _ h02⟩

theorem differ_at (T : Fin 16384) : differ i (ix1 T) = IntOp.cmpi .ne (i (ix2 T (0 : Fin 2))) (i (ix2 T (1 : Fin 2))) := by
  unfold differ
  generalize hp : shapeCast S16384 (extractStridedSlice S16384x1 ![0, 0] i slices_S16384x2_S16384x1_0_0) shapeCasts_S16384x1_S16384 = p
  generalize hr : shapeCast S16384 (extractStridedSlice S16384x1 ![0, 1] i slices_S16384x2_S16384x1_0_1) shapeCasts_S16384x1_S16384 = r
  have h0 : p (ix1 T) = i (ix2 T (0 : Fin 2)) := by
    rw [← hp]
    pointwise
  have h1 : r (ix1 T) = i (ix2 T (1 : Fin 2)) := by
    rw [← hr]
    pointwise
  rw [← h0, ← h1]
  rfl

theorem finite_at (T : Fin 16384) (f : Fin 10240) :
    finite y (ix2 T f) = BitVec.ofBool (decide ((FloatOps.absf (y (ix2 T f)) : EReal) ≤ Ideal.ofBits .f32 0x7F7F0000#32)) := by
  pointwise [finite]
  rfl

theorem normal_at (q : FVec Ideal S16384 .f32) (T : Fin 16384) :
    normal q (ix1 T) = IntOp.ori (BitVec.ofBool (decide ((q (ix1 T) : EReal) = 0)))
      (BitVec.ofBool (decide (Ideal.ofBits .f32 0x00800000#32 ≤ (q (ix1 T) : EReal)))) := by
  pointwise [normal]

theorem quots_at (T : Fin 16384) : (quots y (ix1 T) : EReal) = Cert.AdSpec.quot y T :=
  Cert.AdapterRefIdeal.Val.quot_at y T

/-! ### The constants -/

theorem least : Ideal.ofBits .f32 0x00800000#32 = (((2 : ℝ) ^ (-126 : ℤ) : ℝ) : EReal) := by
  have h := Cert.AdSpec.word_nat 1 (by norm_num)
  rw [if_neg (by norm_num), if_neg (by norm_num)] at h
  norm_num at h ⊢
  exact h

theorem greatest : ∃ v : ℝ, Ideal.ofBits .f32 0x7F7F0000#32 = (v : EReal) ∧ 0 ≤ v ∧ v ≤ (2 : ℝ) ^ (128 : ℕ) := by
  refine ⟨16711680 * (2 : ℝ) ^ (104 : ℤ), ?_, ?_, ?_⟩
  · simp [Ideal.ofBits, Ideal.ieee]
  · norm_num
  · norm_num

theorem over : ∃ v : ℝ, Ideal.ofBits .f32 0x37924925#32 = (v : EReal) ∧ 0 ≤ v ∧ v ≤ 1 / 57000 := by
  refine ⟨9586981 * (2 : ℝ) ^ (-39 : ℤ), ?_, ?_, ?_⟩
  · simp [Ideal.ofBits, Ideal.ieee]
  · norm_num
  · norm_num

theorem bottom : Ideal.ofBits .f32 0xFF800000#32 = ⊥ := by
  simp [Ideal.ofBits, Ideal.ieee]

/-! ### The quotient -/

theorem absf_nonneg (v : EReal) : 0 ≤ (FloatOps.absf (F := Ideal) (φ := .bf16) v : EReal) := by
  show (0 : EReal) ≤ max v (-v)
  rcases le_total 0 v with h | h
  · exact le_max_of_le_left h
  · exact le_max_of_le_right (EReal.neg_nonneg.mpr h)

/-- A greatest magnitude lies between zero and any bound of the magnitudes. -/
theorem fold_le (f : Fin 10240 → EReal) (v : EReal) (h0 : ∀ k, 0 ≤ f k) (h1 : ∀ k, f k ≤ v) :
    0 ≤ Finset.fold max ⊥ f Finset.univ ∧ Finset.fold max ⊥ f Finset.univ ≤ v := by
  constructor
  · exact (h0 0).trans ((Finset.le_fold_max (f 0)).mpr (.inr ⟨0, Finset.mem_univ _, le_rfl⟩))
  · exact (Finset.fold_max_le v).mpr ⟨bot_le, fun k _ => h1 k⟩

theorem tame (h : fn x y a b i gt = fun _ => 1#1) :
    (∀ T : Fin 16384, i (ix2 T (0 : Fin 2)) ≠ i (ix2 T (1 : Fin 2))) ∧ Cert.AdapterIdeal.Val.Tame y := by
  obtain ⟨hd, hf, hn⟩ := parts x y a b i gt h
  have hb : ∀ p : Bool, BitVec.ofBool p = 1#1 → p = true := by decide
  have ho : ∀ p q : Bool, IntOp.ori (BitVec.ofBool p) (BitVec.ofBool q) = 1#1 → p = true ∨ q = true := by decide
  refine ⟨fun T e => ?_, fun T => ?_⟩
  · have := hd T
    rw [differ_at, e] at this
    have hne : ∀ w : BitVec 32, IntOp.cmpi .ne w w = 0#1 := fun w => by simp [IntOp.cmpi]
    rw [hne] at this
    exact absurd this (by decide)
  · obtain ⟨g, hg, hg0, hg1⟩ := greatest
    obtain ⟨s, hs, hs0, hs1⟩ := over
    have hm := fold_le (fun f => FloatOps.absf (y (ix2 T f))) (g : EReal) (fun f => absf_nonneg _) fun f => by
      have := of_decide_eq_true (hb _ ((finite_at y T f).symm.trans (hf T f)))
      rwa [hg] at this
    have hquot : Cert.AdSpec.quot y T = Finset.fold max ⊥ (fun f : Fin 10240 => (FloatOps.absf (y (ix2 T f)) : EReal)) Finset.univ * (s : EReal) := by
      unfold Cert.AdSpec.quot
      rw [hs, bottom]
      rfl
    have hn' := ho _ _ ((normal_at _ T).symm.trans (hn T))
    rw [quots_at, least] at hn'
    generalize Finset.fold max ⊥ (fun f : Fin 10240 => (FloatOps.absf (y (ix2 T f)) : EReal)) Finset.univ = v at hm hquot
    obtain ⟨hv0, hv1⟩ := hm
    have hvt : v ≠ ⊤ := ne_top_of_le_ne_top (EReal.coe_ne_top g) hv1
    have hvb : v ≠ ⊥ := ne_bot_of_le_ne_bot EReal.zero_ne_bot hv0
    lift v to ℝ using ⟨hvt, hvb⟩
    rw [← EReal.coe_mul] at hquot
    rw [hquot] at hn'
    have hv0' : 0 ≤ v := by exact_mod_cast hv0
    have hv1' : v ≤ g := by exact_mod_cast hv1
    refine ⟨v * s, hquot, ?_, ?_⟩
    · rcases hn' with h0 | h0
      · exact .inl (by exact_mod_cast of_decide_eq_true h0)
      · exact .inr (by exact_mod_cast of_decide_eq_true h0)
    · calc v * s ≤ (2 : ℝ) ^ (128 : ℕ) * (1 / 57000) := mul_le_mul (hv1'.trans hg1) hs1 hs0 (by positivity)
        _ < (2 : ℝ) ^ (125 : ℤ) := by norm_num

end Cert.Pre_tame.Val

end
-- ==== Proof.AdTail.lean ====
/-
  The first call's results as the program leaves them: the lines after the call reshape, transpose and slice the arrays.
-/
module

public import proofs.«01_k».proof.Proof.AdFinal
public import Idealize.ShloMosaic.Lib.Claim
public import Idealize.ShloMosaic.Lib.StableHlo.ReadAt

@[expose] public section

set_option maxRecDepth 16384

noncomputable section

namespace Cert.AdapterIdeal.Val

open Cert.AdapterIdeal Cert.AdapterIdeal.Gen Idealize.ShloMosaic Idealize.ShloMosaic.TcCoe Idealize.SL.Sem

/-! ### The lines, from any buffers -/

section
variable (W : Valuation τ sig (Elt Ideal))

theorem tail_v6 (g : Fin 10) (r : Fin 32) (d : Fin 2560) :
    StableHlo.after [hostOps1].flatten W (Proc.devRef .tc main_v6) (ix3 g r d) = W (Proc.devRef .tc main_v5_4) (ix2 (⟨g.val * 32 + r.val, by omega⟩ : Fin 320) d) := by
  simp only [hostOps1, List.flatten_cons, List.flatten_nil, List.append_nil]
  after_reads_simp
  pointwise

theorem tail_v8 (g : Fin 10) (f : Fin 10240) (r : Fin 32) :
    StableHlo.after [hostOps1].flatten W (Proc.devRef .tc main_v8) (ix3 g f r) = W (Proc.devRef .tc main_v5_5) (ix2 (⟨g.val * 32 + r.val, by omega⟩ : Fin 320) f) := by
  simp only [hostOps1, List.flatten_cons, List.flatten_nil, List.append_nil]
  after_reads_simp
  pointwise

theorem tail_v9 (t : Fin 16384) (k : Fin 2) :
    StableHlo.after [hostOps1].flatten W (Proc.devRef .tc main_v9) (ix2 t k) = W (Proc.devRef .tc main_v5_3) (ix2 k t) := by
  simp only [hostOps1, List.flatten_cons, List.flatten_nil, List.append_nil]
  after_reads_simp
  pointwise

theorem tail_v11 (t : Fin 16384) :
    StableHlo.after [hostOps1].flatten W (Proc.devRef .tc main_v11) (ix1 t) = W (Proc.devRef .tc main_v5_1) (ix2 t (0 : Fin 128)) := by
  simp only [hostOps1, List.flatten_cons, List.flatten_nil, List.append_nil]
  after_reads_simp
  pointwise

theorem tail_v5_0 : StableHlo.after [hostOps1].flatten W (Proc.devRef .tc main_v5_0) = W (Proc.devRef .tc main_v5_0) := by
  simp only [hostOps1, List.flatten_cons, List.flatten_nil, List.append_nil]
  after_reads_simp

theorem tail_v5_1 : StableHlo.after [hostOps1].flatten W (Proc.devRef .tc main_v5_1) = W (Proc.devRef .tc main_v5_1) := by
  simp only [hostOps1, List.flatten_cons, List.flatten_nil, List.append_nil]
  after_reads_simp

theorem tail_v5_2 : StableHlo.after [hostOps1].flatten W (Proc.devRef .tc main_v5_2) = W (Proc.devRef .tc main_v5_2) := by
  simp only [hostOps1, List.flatten_cons, List.flatten_nil, List.append_nil]
  after_reads_simp

end

/-! ### The results -/

variable (m : (ℓ : Loc nD τ sig) → Buf (Elt Ideal) ℓ) (c : Dev nD)

/-- What the program leaves in a buffer. -/
abbrev result (r : Ref sig .tc) : Buf (Elt Ideal) ((c : Thread nD τ).loc r) := Pipeline.afterTail₀ cfgs (dats m) 0 (V0 m) [hostOps1] c r

/-- The buffers the lines after the call start from hold the arrays. -/
theorem arrays_at (w : Fin (cfgs 0).W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ (by decide) c _ _ w

theorem ad_mk (g : Fin 10) (r : Fin 32) : ad ⟨g.val * 32 + r.val, by omega⟩ = g := Fin.ext (by show (g.val * 32 + r.val) / 32 = g.val; omega)

theorem rk_mk (g : Fin 10) (r : Fin 32) : rk ⟨g.val * 32 + r.val, by omega⟩ = r := Fin.ext (by show (g.val * 32 + r.val) % 32 = r.val; omega)

theorem result_dB (g : Fin 10) (f : Fin 10240) (r : Fin 32) :
    result m c main_v8 (ix3 g f r) = Cert.AdSpec.dB (x m c) (y m c) (a m c) (i m c) (gt m c) g f r := by
  refine (tail_v8 _ g f r).trans ((congrFun ((arrays_at m c 12).trans (final_db m c)) _).trans ?_)
  exact congrArg₂ (fun (g : Fin 10) (r : Fin 32) => Cert.AdSpec.dB (x m c) (y m c) (a m c) (i m c) (gt m c) g f r) (ad_mk g r) (rk_mk g r)

theorem result_dgate (t : Fin 16384) (k : Fin 2) :
    result m c main_v9 (ix2 t k) = Cert.AdSpec.dgate (x m c) (y m c) (a m c) (b m c) (i m c) t k :=
  (tail_v9 _ t k).trans (congrFun ((arrays_at m c 10).trans (final_dgate m c)) _)

section
variable (hi : ∀ T : Fin 16384, i m c (ix2 T (0 : Fin 2)) ≠ i m c (ix2 T (1 : Fin 2)))
include hi

theorem result_dA (g : Fin 10) (r : Fin 32) (d : Fin 2560) :
    result m c main_v6 (ix3 g r d) = Cert.AdSpec.dA (x m c) (y m c) (b m c) (i m c) (gt m c) g r d := by
  refine (tail_v6 _ g r d).trans ((congrFun ((arrays_at m c 11).trans (final_da m c hi)) _).trans ?_)
  exact congrArg₂ (fun (g : Fin 10) (r : Fin 32) => Cert.AdSpec.dA (x m c) (y m c) (b m c) (i m c) (gt m c) g r d) (ad_mk g r) (rk_mk g r)

theorem result_gus (t : Fin 16384) (j : Fin 320) :
    result m c main_v5_2 (ix2 t j) = Cert.AdSpec.gus (y m c) (b m c) (i m c) (gt m c) t j :=
  (congrFun (tail_v5_2 _) _).trans (congrFun ((arrays_at m c 9).trans (final_gus m c hi)) _)

end

section
variable (hq : Tame (y m c))
include hq

theorem result_lanes (t : Fin 16384) (l : Fin 128) : result m c main_v5_1 (ix2 t l) = Cert.AdSpec.scale (y m c) t :=
  (congrFun (tail_v5_1 _) _).trans (congrFun ((arrays_at m c 8).trans (final_lanes m c hq)) _)

theorem result_scale (t : Fin 16384) : result m c main_v11 (ix1 t) = Cert.AdSpec.scale (y m c) t :=
  (tail_v11 _ t).trans (congrFun ((arrays_at m c 8).trans (final_lanes m c hq)) _)

theorem result_codes (t : Fin 16384) (f : Fin 10240) : result m c main_v5_0 (ix2 t f) = Cert.AdSpec.codes (y m c) t f :=
  (congrFun (tail_v5_0 _) _).trans (congrFun ((arrays_at m c 7).trans (final_codes m c hq)) _)

end

end Cert.AdapterIdeal.Val

end
-- ==== Proof.AdAgree.lean ====
/-
  The first call and its reference agree, result by result, on equal arguments.
-/
module

public import proofs.«01_k».proof.Proof.AdTail
public import proofs.«01_k».proof.Proof.AdRefScale
public import Idealize.ShloMosaic.Lib.Claim

@[expose] public section

set_option maxRecDepth 16384

noncomputable section

namespace Cert.AdAgree

open Idealize.ShloMosaic Idealize.ShloMosaic.TcCoe Idealize.SL.Sem

variable (m : (ℓ : Loc Cert.AdapterIdeal.nD Cert.AdapterIdeal.τ Cert.AdapterIdeal.sig) → Buf (Elt Ideal) ℓ)
  (m' : (ℓ : Loc Cert.AdapterRefIdeal.nD Cert.AdapterRefIdeal.τ Cert.AdapterRefIdeal.sig) → Buf (Elt Ideal) ℓ) (c : Dev Cert.AdapterIdeal.nD)
  (ex : Cert.AdapterRefIdeal.Val.x m' c = Cert.AdapterIdeal.Val.x m c) (ey : Cert.AdapterRefIdeal.Val.y m' c = Cert.AdapterIdeal.Val.y m c)
  (ea : Cert.AdapterRefIdeal.Val.a m' c = Cert.AdapterIdeal.Val.a m c) (eb : Cert.AdapterRefIdeal.Val.b m' c = Cert.AdapterIdeal.Val.b m c)
  (ei : Cert.AdapterRefIdeal.Val.i m' c = Cert.AdapterIdeal.Val.i m c) (eg : Cert.AdapterRefIdeal.Val.gt m' c = Cert.AdapterIdeal.Val.gt m c)
  (hi : ∀ T : Fin 16384, Cert.AdapterIdeal.Val.i m c (ix2 T (0 : Fin 2)) ≠ Cert.AdapterIdeal.Val.i m c (ix2 T (1 : Fin 2)))
  (hq : Cert.AdapterIdeal.Val.Tame (Cert.AdapterIdeal.Val.y m c))

include ex ey ea eb ei eg hi hq

theorem dA : Cert.AdapterRefIdeal.Gen.V m' c Cert.AdapterRefIdeal.main_v58 = Cert.AdapterIdeal.Val.result m c Cert.AdapterIdeal.main_v6 := by
  funext j
  idx_vars j
  refine (Cert.AdapterRefIdeal.Val.V_dA m' c j0 j1 j2).trans (Eq.trans ?_ (Cert.AdapterIdeal.Val.result_dA m c hi j0 j1 j2).symm)
  rw [ex, ey, eb, ei, eg]

theorem dB : Cert.AdapterRefIdeal.Gen.V m' c Cert.AdapterRefIdeal.main_v46 = Cert.AdapterIdeal.Val.result m c Cert.AdapterIdeal.main_v8 := by
  funext j
  idx_vars j
  refine (Cert.AdapterRefIdeal.Val.V_dB m' c j0 j1 j2).trans (Eq.trans ?_ (Cert.AdapterIdeal.Val.result_dB m c j0 j1 j2).symm)
  rw [ex, ey, ea, ei, eg]

theorem dgate : Cert.AdapterRefIdeal.Gen.V m' c Cert.AdapterRefIdeal.main_v33 = Cert.AdapterIdeal.Val.result m c Cert.AdapterIdeal.main_v9 := by
  funext j
  idx_vars j
  refine (Cert.AdapterRefIdeal.Val.V_dgate m' c j0 j1).trans (Eq.trans ?_ (Cert.AdapterIdeal.Val.result_dgate m c j0 j1).symm)
  rw [ex, ey, ea, eb, ei]

theorem codes : (Cert.AdapterRefIdeal.Gen.dats m' 0 c).arrAt 2 (Cert.AdapterRefIdeal.cfgs 0).N = (Cert.AdapterIdeal.Gen.dats m 0 c).arrAt 7 (Cert.AdapterIdeal.cfgs 0).N := by
  refine (Cert.AdapterRefIdeal.Val.final m' c).trans (funext fun j => ?_)
  idx_vars j
  refine Eq.trans ?_ (congrFun (Cert.AdapterIdeal.Val.final_codes m c hq) (ix2 j0 j1)).symm
  rw [ey]
  rfl

theorem scale : Cert.AdapterRefIdeal.Gen.V m' c Cert.AdapterRefIdeal.main_v15 = Cert.AdapterIdeal.Val.result m c Cert.AdapterIdeal.main_v11 := by
  funext j
  idx_vars j
  refine (Cert.AdapterRefIdeal.Val.V_scale m' c j0).trans (Eq.trans ?_ (Cert.AdapterIdeal.Val.result_scale m c hq j0).symm)
  rw [ey]

theorem lanes : Cert.AdapterRefIdeal.Gen.V m' c Cert.AdapterRefIdeal.main_v66 = (Cert.AdapterIdeal.Gen.dats m 0 c).arrAt 8 (Cert.AdapterIdeal.cfgs 0).N := by
  funext j
  idx_vars j
  refine (Cert.AdapterRefIdeal.Val.V_lanes m' c j0 j1).trans (Eq.trans ?_ (congrFun (Cert.AdapterIdeal.Val.final_lanes m c hq) (ix2 j0 j1)).symm)
  rw [ey]
  rfl

theorem gus : Cert.AdapterRefIdeal.Gen.V m' c Cert.AdapterRefIdeal.main_v64 = (Cert.AdapterIdeal.Gen.dats m 0 c).arrAt 9 (Cert.AdapterIdeal.cfgs 0).N := by
  funext j
  idx_vars j
  refine (Cert.AdapterRefIdeal.Val.V_gus m' c j0 j1).trans (Eq.trans ?_ (congrFun (Cert.AdapterIdeal.Val.final_gus m c hi) (ix2 j0 j1)).symm)
  rw [ey, eb, ei, eg]
  rfl

end Cert.AdAgree

end
-- ==== Proof.AdClaim.lean ====
/-
  The value claim of the first call: where the precondition holds, the kernel and the reference leave the same arrays.
-/
module

public import proofs.«01_k».proof.Defs
public import proofs.«01_k».proof.Proof.AdPre
public import proofs.«01_k».proof.Proof.AdAgree
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
theorem algebraicAdapter : Cert.algebraic_AdapterIdeal_AdapterRefIdeal_pre_tame := by
  pair_intro
  · run_from Cert.AdapterIdeal.Gen.run_main m g
    · exact Cert.AdapterIdeal.Gen.W_main_arg2 m _ c
    · exact Cert.AdapterIdeal.Gen.W_main_arg3 m _ c
    · exact Cert.AdapterIdeal.Gen.W_main_arg4 m _ c
  · refine θ_run_mono (θ_run_and (Cert.AdapterRefIdeal.Gen.run_main m' g') (Cert.AdapterRefIdeal.Gen.unchanged m' g')) ?_
    intro r hr c
    obtain ⟨hr, hu⟩ := hr
    have hb := (hr c).2
    obtain ⟨hi, hq⟩ := Cert.Pre_tame.Val.tame _ _ _ _ _ _ (hpre c)
    obtain ⟨h0, h1, h2, h3, h4, h5⟩ := hagree c
    exact ⟨(hb Cert.AdapterRefIdeal.main_v58 (by decide)).trans (Cert.AdAgree.dA m m' c h0 h1 h2 h3 h4 h5 hi hq),
      (hb Cert.AdapterRefIdeal.main_v46 (by decide)).trans (Cert.AdAgree.dB m m' c h0 h1 h2 h3 h4 h5 hi hq),
      (hb Cert.AdapterRefIdeal.main_v33 (by decide)).trans (Cert.AdAgree.dgate m m' c h0 h1 h2 h3 h4 h5 hi hq),
      ((hr c).1 2).trans (Cert.AdAgree.codes m m' c h0 h1 h2 h3 h4 h5 hi hq),
      (hb Cert.AdapterRefIdeal.main_v15 (by decide)).trans (Cert.AdAgree.scale m m' c h0 h1 h2 h3 h4 h5 hi hq),
      (hb Cert.AdapterRefIdeal.main_v66 (by decide)).trans (Cert.AdAgree.lanes m m' c h0 h1 h2 h3 h4 h5 hi hq),
      (hb Cert.AdapterRefIdeal.main_v64 (by decide)).trans (Cert.AdAgree.gus m m' c h0 h1 h2 h3 h4 h5 hi hq), hu c⟩

end Cert.Proof

end
-- ==== Proof.DxSpec.lean ====
/-
  The first result of the problem as a formula over the extended reals: `dx = (codes · (w · w_scale)ᵀ) · scale + gu · A`,
  index by index. Both programs, the kernel's second call and the reference, are shown to compute it.
-/
module

public import Idealize.ShloMosaic.PureOps.Ideal
public import Idealize.ShloMosaic.Lib.Pointwise

@[expose] public section

noncomputable section

namespace Cert.DxSpec

open Idealize.ShloMosaic

/-- The adapters' part of `dx` at row `r` and column `d`: the row's gated products against column `d` of every adapter's `A`. -/
def adapters (gu : FVec Ideal ⟨2, ![16384, 320]⟩ .bf16) (a : FVec Ideal ⟨3, ![10, 32, 2560]⟩ .bf16) (r : Fin 16384) (d : Fin 2560) : EReal :=
  ∑ g : Fin 10, ∑ k : Fin 32, (gu (ix2 r ⟨g.val * 32 + k.val, by omega⟩) : EReal) * (a (ix3 g k d) : EReal)

/-- `dx` at row `r` and column `d`: the row's codes against the dequantised weight row `d` (one weight scale per 128 by 128
    block), times the row's scale; plus the adapters' part. -/
def dx (codes : FVec Ideal ⟨2, ![16384, 10240]⟩ .fp8e5m2) (scale : FVec Ideal ⟨2, ![16384, 128]⟩ .f32)
    (gu : FVec Ideal ⟨2, ![16384, 320]⟩ .bf16) (w : FVec Ideal ⟨2, ![2560, 10240]⟩ .fp8e4m3)
    (ws : FVec Ideal ⟨2, ![20, 80]⟩ .f32) (a : FVec Ideal ⟨3, ![10, 32, 2560]⟩ .bf16) (r : Fin 16384) (d : Fin 2560) : EReal :=
  (∑ f : Fin 10240, (codes (ix2 r f) : EReal) * ((w (ix2 d f) : EReal) * (ws (ix2 ⟨d.val / 128, by omega⟩ ⟨f.val / 128, by omega⟩) : EReal)))
      * (scale (ix2 r 0) : EReal)
    + adapters gu a r d

end Cert.DxSpec

end
-- ==== Proof.DxRefValue.lean ====
/-
  The reference of the kernel's second call at the ideal instance: its one result array is `Cert.DxSpec.dx` of its arguments.
-/
module

public import proofs.«01_k».proof.Proof.Gen.DxRefIdeal.Value
public import proofs.«01_k».proof.Proof.DxSpec
public import Idealize.ShloMosaic.Lib.Pipeline.ValueKit

@[expose] public section

set_option maxRecDepth 16384

noncomputable section

namespace Cert.DxRefIdeal.Val

open Cert.DxRefIdeal Cert.DxRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The adapters' part as the region finds it. -/
theorem V_v1 (c : Dev nD) (r : Fin 16384) (d : Fin 2560) :
    V m c main_v1 (ix2 r d) = Cert.DxSpec.adapters (m ((c : Thread nD τ).loc main_arg2)) (m ((c : Thread nD τ).loc main_arg5)) r d := by
  entry_read
  pointwise [Cert.DxSpec.adapters]

/-- The one point's blocks are the whole arrays: every block index is zero. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0])

/-- The block of the adapters' part, at a row and a column. -/
theorem iblk4 (c : Dev nD) (r : Fin 16384) (d : Fin 2560) :
    iblk m c 4 t0_0 (ix2 r d) = Cert.DxSpec.adapters (m ((c : Thread nD τ).loc main_arg2)) (m ((c : Thread nD τ).loc main_arg5)) r d := by
  rw [← V_v1]
  blk_ext [iblk, idx t0_0]

/-- The result array after the run, index by index. -/
theorem final (c : Dev nD) : (dats m 0 c).arrAt 5 (cfgs 0).N
    = fun j => Cert.DxSpec.dx (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (j 0) (j 1) := by
  refine (dats m 0 c).arrAt_eq_of_after_last 5 t0_0 (by decide +kernel) _ fun j => ?_
  blk_simp
  rw [after0_5]
  frame_out
  idx_vars j
  pointwise [k0_pay1]
  unfold Cert.DxSpec.dx
  rw [← iblk4]
  blk_point [iblk, V_main_arg0, V_main_arg1, V_main_arg3, idx t0_0]

end Cert.DxRefIdeal.Val

end
-- ==== Proof.DxTiles.lean ====
/-
  The dequantised weight block the second call keeps in its scratch. At the first grid point of each column block the body
  fills the scratch in 800 stores, one per 128 by 128 tile; here those stores are one family, tile after tile in row-major
  order, and what they leave is one function of the block's weight codes and scales.
-/
module

public import proofs.«01_k».proof.Proof.Gen.DxIdeal.Frame
public import Idealize.ShloMosaic.Lib.Pipeline.ValueKit
public import Idealize.ShloMosaic.Lib.Pipeline.ReadBack

@[expose] public section

set_option maxRecDepth 16384

noncomputable section

namespace Cert.DxIdeal.Val

open Cert.DxIdeal Cert.DxIdeal.Gen Idealize.ShloMosaic Idealize.ShloMosaic.TcCoe Idealize.SL.Sem

section Tiles

variable {F : FTy → Type} [FloatOps F]

/-- Tile `n` lies inside the block: its row of tiles is below 10, its column of tiles below 80. -/
theorem inb_tile (n : ℕ) : ∀ a, (![n / 80 % 10 * 128, n % 80 * 128] : Fin 2 → ℕ) a + S128x128.size a ≤ S1280x10240.size a :=
  Fin.forall_fin_two.mpr ⟨by show n / 80 % 10 * 128 + 128 ≤ 1280; omega, by show n % 80 * 128 + 128 ≤ 10240; omega⟩

/-- The scales of tile `n`, one per column, lie inside the scales' block. -/
theorem inb_row (n : ℕ) : ∀ a, (![0, n / 80 % 10, n % 80 * 128] : Fin 3 → ℕ) a + S1x1x128.size a ≤ S1x10x10240.size a := by
  intro a
  match a with
  | ⟨0, _⟩ => show 0 + 1 ≤ 1; omega
  | ⟨1, _⟩ => show n / 80 % 10 + 1 ≤ 10; omega
  | ⟨2, _⟩ => show n % 80 * 128 + 128 ≤ 10240; omega

/-- Where tile `n` lies in the block; -/
abbrev tileRect (n : ℕ) : Rect S1280x10240 := Rect.unit ![n / 80 % 10 * 128, n % 80 * 128] S128x128.size (inb_tile n)

/-- and where its scales lie in theirs. -/
abbrev rowRect (n : ℕ) : Rect S1x10x10240 := Rect.unit ![0, n / 80 % 10, n % 80 * 128] S1x1x128.size (inb_row n)

/-- The store of tile `n`: the weight codes of the tile times its scales. -/
def tile (arg5 : Memref sig .tc .vmem S1280x10240 .fp8e4m3) (harg5 : arg5.IsWhole) (arg6 : Memref sig .tc .vmem S1x10x10240 .f32) (harg6 : arg6.IsWhole)
    (x3 : Vec F S1280x10240 .fp8e4m3) (x4 : Vec F S1x10x10240 .f32) (n : ℕ) : View.Piece (Elt F) S1280x10240 .bf16 :=
  ⟨tileRect n, k0_pay1 (View.readAt (Elt F) arg6.view (rowRect n).toLoadRect (harg6.unread x4))
    (View.readAt (Elt F) arg5.view (tileRect n).toLoadRect (harg5.unread x3))⟩

/-- The stores of the first `n` tiles, the last first. -/
def tiles (arg5 : Memref sig .tc .vmem S1280x10240 .fp8e4m3) (harg5 : arg5.IsWhole) (arg6 : Memref sig .tc .vmem S1x10x10240 .f32) (harg6 : arg6.IsWhole)
    (x3 : Vec F S1280x10240 .fp8e4m3) (x4 : Vec F S1x10x10240 .f32) : ℕ → List (View.Piece (Elt F) S1280x10240 .bf16)
  | 0 => []
  | n + 1 => tile arg5 harg5 arg6 harg6 x3 x4 n :: tiles arg5 harg5 arg6 harg6 x3 x4 n

/-- The stores the body makes into the scratch are the 800 tiles. -/
theorem stores_eq_tiles (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : cond0_0 i)
    (x0 : Vec F S512x10240 .fp8e5m2) (x1 : Vec F S512x128 .f32) (x2 : Vec F S512x320 .bf16) (x3 : Vec F S1280x10240 .fp8e4m3) (x4 : Vec F S1x10x10240 .f32) (x5 : Vec F S320x1280 .bf16) :
    (kernelRun0_A c i arg2 harg2 arg3 harg3 arg4 harg4 arg5 harg5 arg6 harg6 arg7 harg7 arg8 harg8 arg9 harg9 arg10 harg10 hc0 x0 x1 x2 x3 x4 x5).2.1 = tiles arg5 harg5 arg6 harg6 x3 x4 800 := by
  sl_kernel_rfl

end Tiles

/-- The dequantised weight block: each code times the scale of its row of blocks and its column. -/
def deq (x3 : Vec Ideal S1280x10240 .fp8e4m3) (x4 : Vec Ideal S1x10x10240 .f32) : Vec Ideal S1280x10240 .bf16 :=
  fun y => ((x3 y : EReal) * (x4 (ix3 (0 : Fin 1) (⟨(y 0).val / 128, by have : (y 0).val < 1280 := (y 0).isLt; omega⟩ : Fin 10) (y 1)) : EReal) : EReal)

/-- An index of tile `n`, in the block. -/
theorem tileRect_emb (n : ℕ) (a b : Fin 128) : (tileRect n).emb (ix2 a b)
    = ix2 (⟨n / 80 % 10 * 128 + a.val, by omega⟩ : Fin 1280) (⟨n % 80 * 128 + b.val, by omega⟩ : Fin 10240) := by
  refine funext (Fin.forall_fin_two.mpr ⟨Fin.ext ?_, Fin.ext ?_⟩)
  · show n / 80 % 10 * 128 + 1 * a.val = n / 80 % 10 * 128 + a.val; omega
  · show n % 80 * 128 + 1 * b.val = n % 80 * 128 + b.val; omega

/-- A tile's payload is its part of the dequantised block. -/
theorem tile_apply (arg5 : Memref sig .tc .vmem S1280x10240 .fp8e4m3) (harg5 : arg5.IsWhole) (arg6 : Memref sig .tc .vmem S1x10x10240 .f32) (harg6 : arg6.IsWhole)
    (x3 : Vec Ideal S1280x10240 .fp8e4m3) (x4 : Vec Ideal S1x10x10240 .f32) (n : ℕ) (x : (tileRect n).shape.Idx) :
    (tile arg5 harg5 arg6 harg6 x3 x4 n).2 x = deq x3 x4 ((tileRect n).emb x) := by
  show k0_pay1 (View.ld (arg6.view.read (Elt Ideal) (harg6.unread x4)) (rowRect n)) (View.ld (arg5.view.read (Elt Ideal) (harg5.unread x3)) (tileRect n)) x = _
  rw [harg5.read_unread, harg6.read_unread]
  idx_vars x
  rw [tileRect_emb]
  pointwise [k0_pay1, deq]
  have e : (n / 80 % 10 * 128 + (x0 : ℕ)) / 128 = n / 80 % 10 := by omega
  simp only [e]

/-- Every one of the first `n` stores is its part of the dequantised block. -/
theorem tiles_mem (arg5 : Memref sig .tc .vmem S1280x10240 .fp8e4m3) (harg5 : arg5.IsWhole) (arg6 : Memref sig .tc .vmem S1x10x10240 .f32) (harg6 : arg6.IsWhole)
    (x3 : Vec Ideal S1280x10240 .fp8e4m3) (x4 : Vec Ideal S1x10x10240 .f32) : ∀ n : ℕ, View.PiecesOf (deq x3 x4) (tiles arg5 harg5 arg6 harg6 x3 x4 n)
  | 0 => trivial
  | n + 1 => ⟨tile_apply arg5 harg5 arg6 harg6 x3 x4 n, tiles_mem arg5 harg5 arg6 harg6 x3 x4 n⟩

/-- So the stores leave the dequantised block. -/
theorem canon_stores (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : cond0_0 i)
    (x0 : Vec Ideal S512x10240 .fp8e5m2) (x1 : Vec Ideal S512x128 .f32) (x2 : Vec Ideal S512x320 .bf16) (x3 : Vec Ideal S1280x10240 .fp8e4m3) (x4 : Vec Ideal S1x10x10240 .f32) (x5 : Vec Ideal S320x1280 .bf16) :
    View.canon (kernelRun0_A c i arg2 harg2 arg3 harg3 arg4 harg4 arg5 harg5 arg6 harg6 arg7 harg7 arg8 harg8 arg9 harg9 arg10 harg10 hc0 x0 x1 x2 x3 x4 x5).2.1 = deq x3 x4 := by
  funext y
  obtain ⟨p, hp, hy⟩ := scover0_A_0 c i arg2 harg2 arg3 harg3 arg4 harg4 arg5 harg5 arg6 harg6 arg7 harg7 arg8 harg8 arg9 harg9 arg10 harg10 hc0 x0 x1 x2 x3 x4 x5 y
  rw [stores_eq_tiles c i arg2 harg2 arg3 harg3 arg4 harg4 arg5 harg5 arg6 harg6 arg7 harg7 arg8 harg8 arg9 harg9 arg10 harg10 hc0 x0 x1 x2 x3 x4 x5] at hp ⊢
  have := View.canon_append_of_piecesOf (deq x3 x4) [] _ (tiles_mem arg5 harg5 arg6 harg6 x3 x4 800) y ⟨p, hp, hy⟩
  rwa [List.append_nil] at this

/-- The scratch after such a point holds the dequantised block. -/
theorem sout_A (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : cond0_0 i)
    (x0 : Vec Ideal S512x10240 .fp8e5m2) (x1 : Vec Ideal S512x128 .f32) (x2 : Vec Ideal S512x320 .bf16) (x3 : Vec Ideal S1280x10240 .fp8e4m3) (x4 : Vec Ideal S1x10x10240 .f32) (x5 : Vec Ideal S320x1280 .bf16) :
    sout0_A_0 c i arg2 harg2 arg3 harg3 arg4 harg4 arg5 harg5 arg6 harg6 arg7 harg7 arg8 harg8 arg9 harg9 arg10 harg10 hc0 x0 x1 x2 x3 x4 x5 = deq x3 x4 := by
  rw [← canon_stores c i arg2 harg2 arg3 harg3 arg4 harg4 arg5 harg5 arg6 harg6 arg7 harg7 arg8 harg8 arg9 harg9 arg10 harg10 hc0 x0 x1 x2 x3 x4 x5]
  exact View.read_writes_eq_canon _ _ _ (scover0_A_0 c i arg2 harg2 arg3 harg3 arg4 harg4 arg5 harg5 arg6 harg6 arg7 harg7 arg8 harg8 arg9 harg9 arg10 harg10 hc0 x0 x1 x2 x3 x4 x5)

end Cert.DxIdeal.Val

end
-- ==== Proof.DxOut.lean ====
/-
  What one grid point of the second call leaves in the output's block, as one function of its input blocks and of the
  dequantised weight block in the scratch: at the first point of a column block and at the others alike.
-/
module

public import proofs.«01_k».proof.Proof.DxTiles

@[expose] public section

set_option maxRecDepth 16384

noncomputable section

namespace Cert.DxIdeal.Val

open Cert.DxIdeal Cert.DxIdeal.Gen Idealize.ShloMosaic Idealize.ShloMosaic.TcCoe Idealize.SL.Sem

section Out

variable {F : FTy → Type} [FloatOps F]

theorem inb_codes (k : ℕ) : ∀ a, (![0, k % 5 * 2048] : Fin 2 → ℕ) a + S512x2048.size a ≤ S512x10240.size a :=
  Fin.forall_fin_two.mpr ⟨by show 0 + 512 ≤ 512; omega, by show k % 5 * 2048 + 2048 ≤ 10240; omega⟩

theorem inb_weights (k : ℕ) : ∀ a, (![0, k % 5 * 2048] : Fin 2 → ℕ) a + S1280x2048.size a ≤ S1280x10240.size a :=
  Fin.forall_fin_two.mpr ⟨by show 0 + 1280 ≤ 1280; omega, by show k % 5 * 2048 + 2048 ≤ 10240; omega⟩

/-- The columns of chunk `k` of the codes, and of the weights. -/
abbrev codesRect (k : ℕ) : Rect S512x10240 := Rect.unit ![0, k % 5 * 2048] S512x2048.size (inb_codes k)
abbrev weightsRect (k : ℕ) : Rect S1280x10240 := Rect.unit ![0, k % 5 * 2048] S1280x2048.size (inb_weights k)

/-- The first lane of the scale. -/
abbrev scaleRect : Rect S512x128 := Rect.unit ![0, 0] S512x1.size inb_S512x128_S512x1_0_0

/-- The whole accumulator. -/
abbrev accRect : Rect S512x1280 := Rect.unit ![0, 0] S512x1280.size inb_S512x1280_S512x1280_0_0

/-- The accumulator after chunk `k`, of the codes `x0` and the weights `wb`. -/
def acc (x0 : Vec F S512x10240 .fp8e5m2) (wb : Vec F S1280x10240 .bf16) : ℕ → Vec F S512x1280 .f32
  | 0 => k0_pay961 (View.ld x0 (codesRect 0)) (View.ld wb (weightsRect 0))
  | k + 1 => k0_pay962 (View.ld x0 (codesRect (k + 1))) (View.ld wb (weightsRect (k + 1))) (acc x0 wb k)

/-- The output's block. -/
def out (x0 : Vec F S512x10240 .fp8e5m2) (x1 : Vec F S512x128 .f32) (x2 : Vec F S512x320 .bf16) (x5 : Vec F S320x1280 .bf16)
    (wb : Vec F S1280x10240 .bf16) : Vec F S512x1280 .bf16 :=
  k0_pay966 x2 x5 (acc x0 wb 4) (View.ld x1 scaleRect)

/-- The accumulator's stores up to chunk `k`, the last first, over any way `w` of reading the weights' chunks. -/
def accStores (arg10 : Memref sig .tc .vmem S512x1280 .f32) (arg2 : Memref sig .tc .vmem S512x10240 .fp8e5m2) (harg2 : arg2.IsWhole)
    (x0 : Vec F S512x10240 .fp8e5m2) (w : ℕ → Vec F S1280x2048 .bf16) : ℕ → List (View.Piece (Elt F) S512x1280 .f32)
  | 0 => [⟨accRect, k0_pay961 (View.readAt (Elt F) arg2.view (codesRect 0).toLoadRect (harg2.unread x0)) (w 0)⟩]
  | k + 1 => ⟨accRect, k0_pay962 (View.readAt (Elt F) arg2.view (codesRect (k + 1)).toLoadRect (harg2.unread x0)) (w (k + 1))
      (arg10.view.readCov (accStores arg10 arg2 harg2 x0 w k) accRect.toLoadRect)⟩ :: accStores arg10 arg2 harg2 x0 w k

/-- Reading the accumulator back after chunk `k`. -/
theorem readCov_accStores (arg10 : Memref sig .tc .vmem S512x1280 .f32) (arg2 : Memref sig .tc .vmem S512x10240 .fp8e5m2) (harg2 : arg2.IsWhole)
    (x0 : Vec F S512x10240 .fp8e5m2) (wb : Vec F S1280x10240 .bf16) (k : ℕ) [∀ e, Nonempty (Elt F e)] :
    arg10.view.readCov (accStores arg10 arg2 harg2 x0 (fun k => View.ld wb (weightsRect k)) k) accRect.toLoadRect = acc x0 wb k := by
  induction k with
  | zero =>
    refine (View.readCov_cons_toLoadRect _ _ _ _).trans ?_
    rw [View.readAt_eq_ld, harg2.read_unread]; rfl
  | succ k ih =>
    refine (View.readCov_cons_toLoadRect _ _ _ _).trans ?_
    rw [View.readAt_eq_ld, harg2.read_unread, ih]; rfl

/-- The one store into the output's block at the first point of a column block. -/
theorem store_A_eq (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : cond0_0 i)
    (x0 : Vec F S512x10240 .fp8e5m2) (x1 : Vec F S512x128 .f32) (x2 : Vec F S512x320 .bf16) (x3 : Vec F S1280x10240 .fp8e4m3) (x4 : Vec F S1x10x10240 .f32) (x5 : Vec F S320x1280 .bf16) :
    (kernelRun0_A c i arg2 harg2 arg3 harg3 arg4 harg4 arg5 harg5 arg6 harg6 arg7 harg7 arg8 harg8 arg9 harg9 arg10 harg10 hc0 x0 x1 x2 x3 x4 x5).1 = [⟨accRect, k0_pay966 (View.readAt (Elt F) arg4.view (Rect.unit ![0, 0] S512x320.size inb_S512x320_S512x320_0_0).toLoadRect (harg4.unread x2))
      (View.readAt (Elt F) arg7.view (Rect.unit ![0, 0] S320x1280.size inb_S320x1280_S320x1280_0_0).toLoadRect (harg7.unread x5))
      (arg10.view.readCov (accStores arg10 arg2 harg2 x0 (fun k => arg9.view.readCov (kernelRun0_A c i arg2 harg2 arg3 harg3 arg4 harg4 arg5 harg5 arg6 harg6 arg7 harg7 arg8 harg8 arg9 harg9 arg10 harg10 hc0 x0 x1 x2 x3 x4 x5).2.1 (weightsRect k).toLoadRect) 4) accRect.toLoadRect)
      (View.readAt (Elt F) arg3.view scaleRect.toLoadRect (harg3.unread x1))⟩] := by
  sl_kernel_rfl

/-- The one store into the output's block at the other points. -/
theorem store_B_eq (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : ¬cond0_0 i)
    (x0 : Vec F S512x10240 .fp8e5m2) (x1 : Vec F S512x128 .f32) (x2 : Vec F S512x320 .bf16) (x3 : Vec F S1280x10240 .fp8e4m3) (x4 : Vec F S1x10x10240 .f32) (x5 : Vec F S320x1280 .bf16) (xs0 : Vec F S1280x10240 .bf16) :
    (kernelRun0_B c i arg2 harg2 arg3 harg3 arg4 harg4 arg5 harg5 arg6 harg6 arg7 harg7 arg8 harg8 arg9 harg9 arg10 harg10 hc0 x0 x1 x2 x3 x4 x5 xs0).1 = [⟨accRect, k0_pay966 (View.readAt (Elt F) arg4.view (Rect.unit ![0, 0] S512x320.size inb_S512x320_S512x320_0_0).toLoadRect (harg4.unread x2))
      (View.readAt (Elt F) arg7.view (Rect.unit ![0, 0] S320x1280.size inb_S320x1280_S320x1280_0_0).toLoadRect (harg7.unread x5))
      (arg10.view.readCov (accStores arg10 arg2 harg2 x0 (fun k => View.readAt (Elt F) arg9.view (weightsRect k).toLoadRect (harg9.unread xs0)) 4) accRect.toLoadRect)
      (View.readAt (Elt F) arg3.view scaleRect.toLoadRect (harg3.unread x1))⟩] := by
  sl_kernel_rfl

end Out

/-- At the first point of a column block. -/
theorem out_A (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : cond0_0 i)
    (x0 : Vec Ideal S512x10240 .fp8e5m2) (x1 : Vec Ideal S512x128 .f32) (x2 : Vec Ideal S512x320 .bf16) (x3 : Vec Ideal S1280x10240 .fp8e4m3) (x4 : Vec Ideal S1x10x10240 .f32) (x5 : Vec Ideal S320x1280 .bf16) :
    out0_A_6 c i arg2 harg2 arg3 harg3 arg4 harg4 arg5 harg5 arg6 harg6 arg7 harg7 arg8 harg8 arg9 harg9 arg10 harg10 hc0 x0 x1 x2 x3 x4 x5 = out x0 x1 x2 x5 (deq x3 x4) := by
  have hw : (fun k => arg9.view.readCov (kernelRun0_A c i arg2 harg2 arg3 harg3 arg4 harg4 arg5 harg5 arg6 harg6 arg7 harg7 arg8 harg8 arg9 harg9 arg10 harg10 hc0 x0 x1 x2 x3 x4 x5).2.1 (weightsRect k).toLoadRect) = fun k => View.ld (deq x3 x4) (weightsRect k) := by
    funext k
    rw [View.readCov_eq_canon_ld _ _ _ (scover0_A_0 c i arg2 harg2 arg3 harg3 arg4 harg4 arg5 harg5 arg6 harg6 arg7 harg7 arg8 harg8 arg9 harg9 arg10 harg10 hc0 x0 x1 x2 x3 x4 x5), canon_stores c i arg2 harg2 arg3 harg3 arg4 harg4 arg5 harg5 arg6 harg6 arg7 harg7 arg8 harg8 arg9 harg9 arg10 harg10 hc0 x0 x1 x2 x3 x4 x5]
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5), store_A_eq c i arg2 harg2 arg3 harg3 arg4 harg4 arg5 harg5 arg6 harg6 arg7 harg7 arg8 harg8 arg9 harg9 arg10 harg10 hc0 x0 x1 x2 x3 x4 x5, hw, readCov_accStores]
  refine (View.canon_unit_zero (by funext a; revert a; decide) _ _).trans ?_
  simp only [View.readAt_eq_ld, Memref.IsWhole.read_unread]
  rw [View.ld_unit_zero (by funext a; revert a; decide), View.ld_unit_zero (by funext a; revert a; decide)]
  rfl

/-- At the other points. -/
theorem out_B (c : Dev nD) (i : grid0.Coords) (arg2 : Memref sig .tc .vmem S512x10240 .fp8e5m2) (harg2 : arg2.IsWhole) (arg3 : Memref sig .tc .vmem S512x128 .f32) (harg3 : arg3.IsWhole) (arg4 : Memref sig .tc .vmem S512x320 .bf16) (harg4 : arg4.IsWhole) (arg5 : Memref sig .tc .vmem S1280x10240 .fp8e4m3) (harg5 : arg5.IsWhole) (arg6 : Memref sig .tc .vmem S1x10x10240 .f32) (harg6 : arg6.IsWhole) (arg7 : Memref sig .tc .vmem S320x1280 .bf16) (harg7 : arg7.IsWhole) (arg8 : Memref sig .tc .vmem S512x1280 .bf16) (harg8 : arg8.IsWhole) (arg9 : Memref sig .tc .vmem S1280x10240 .bf16) (harg9 : arg9.IsWhole) (arg10 : Memref sig .tc .vmem S512x1280 .f32) (harg10 : arg10.IsWhole) (hc0 : ¬cond0_0 i)
    (x0 : Vec Ideal S512x10240 .fp8e5m2) (x1 : Vec Ideal S512x128 .f32) (x2 : Vec Ideal S512x320 .bf16) (x3 : Vec Ideal S1280x10240 .fp8e4m3) (x4 : Vec Ideal S1x10x10240 .f32) (x5 : Vec Ideal S320x1280 .bf16) (xs0 : Vec Ideal S1280x10240 .bf16) :
    out0_B_6 c i arg2 harg2 arg3 harg3 arg4 harg4 arg5 harg5 arg6 harg6 arg7 harg7 arg8 harg8 arg9 harg9 arg10 harg10 hc0 x0 x1 x2 x3 x4 x5 xs0 = out x0 x1 x2 x5 xs0 := by
  have hw : (fun k => View.readAt (Elt Ideal) arg9.view (weightsRect k).toLoadRect (harg9.unread xs0)) = fun k => View.ld xs0 (weightsRect k) := by
    funext k
    rw [View.readAt_eq_ld, harg9.read_unread]
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0), store_B_eq c i arg2 harg2 arg3 harg3 arg4 harg4 arg5 harg5 arg6 harg6 arg7 harg7 arg8 harg8 arg9 harg9 arg10 harg10 hc0 x0 x1 x2 x3 x4 x5 xs0, hw, readCov_accStores]
  refine (View.canon_unit_zero (by funext a; revert a; decide) _ _).trans ?_
  simp only [View.readAt_eq_ld, Memref.IsWhole.read_unread]
  rw [View.ld_unit_zero (by funext a; revert a; decide), View.ld_unit_zero (by funext a; revert a; decide)]
  rfl

end Cert.DxIdeal.Val

end
-- ==== Proof.DxPoint.lean ====
/-
  The block `out` of one grid point of the second call at the ideal instance, index by index: the five chunks' sums are the
  sum over all columns.
-/
module

public import proofs.«01_k».proof.Proof.DxOut
public import Idealize.ShloMosaic.Lib.Pipeline.ValueKit

@[expose] public section

set_option maxRecDepth 16384

noncomputable section

namespace Cert.DxIdeal.Val

open Cert.DxIdeal Cert.DxIdeal.Gen Idealize.ShloMosaic Idealize.ShloMosaic.TcCoe Idealize.SL.Sem

/-- One chunk's part of row `r` against weight row `d`. -/
def chunk (x0 : Vec Ideal S512x10240 .fp8e5m2) (wb : Vec Ideal S1280x10240 .bf16) (r : Fin 512) (d : Fin 1280) (k : ℕ) : EReal :=
  ∑ i : Fin 2048, (x0 (ix2 r ⟨k % 5 * 2048 + i.val, by omega⟩) : EReal) * (wb (ix2 d ⟨k % 5 * 2048 + i.val, by omega⟩) : EReal)

theorem acc_apply (x0 : Vec Ideal S512x10240 .fp8e5m2) (wb : Vec Ideal S1280x10240 .bf16) (r : Fin 512) (d : Fin 1280) (k : ℕ) :
    (acc x0 wb k (ix2 r d) : EReal) = ∑ j : Fin (k + 1), chunk x0 wb r d j.val := by
  induction k with
  | zero =>
    rw [Fin.sum_univ_one]
    unfold acc chunk
    pointwise [k0_pay961]
  | succ k ih =>
    rw [Fin.sum_univ_castSucc]
    refine Eq.trans ?_ (congrArg (· + chunk x0 wb r d (k + 1)) ih)
    unfold chunk
    show k0_pay962 (F := Ideal) _ _ _ _ = _
    pointwise [k0_pay962]

/-- One point's block at row `r` and column `d`. -/
theorem out_apply (x0 : Vec Ideal S512x10240 .fp8e5m2) (x1 : Vec Ideal S512x128 .f32) (x2 : Vec Ideal S512x320 .bf16)
    (x5 : Vec Ideal S320x1280 .bf16) (wb : Vec Ideal S1280x10240 .bf16) (r : Fin 512) (d : Fin 1280) :
    (out x0 x1 x2 x5 wb (ix2 r d) : EReal)
      = (∑ f : Fin 10240, (x0 (ix2 r f) : EReal) * (wb (ix2 d f) : EReal)) * (x1 (ix2 r 0) : EReal)
        + ∑ k : Fin 320, (x2 (ix2 r k) : EReal) * (x5 (ix2 k d) : EReal) := by
  have hs : (acc x0 wb 4 (ix2 r d) : EReal) = ∑ f : Fin 10240, (x0 (ix2 r f) : EReal) * (wb (ix2 d f) : EReal) := by
    rw [acc_apply, Fin.sum_univ_tiles (N := 10240) 5 2048 (by norm_num)]
    refine Finset.sum_congr rfl fun j _ => Finset.sum_congr rfl fun i _ => ?_
    have hj : j.val % 5 = j.val := Nat.mod_eq_of_lt j.isLt
    simp only [hj]
  rw [← hs]
  unfold out
  pointwise [k0_pay966]

end Cert.DxIdeal.Val

end
-- ==== Proof.DxValue.lean ====
/-
  The kernel's second call at the ideal instance: its one result array is `Cert.DxSpec.dx` of its arguments. The scratch
  holds the dequantised weights of the current column block at every point, and each point's block is `out` of them.
-/
module

public import proofs.«01_k».proof.Proof.Gen.DxIdeal.Value
public import proofs.«01_k».proof.Proof.DxPoint
public import proofs.«01_k».proof.Proof.DxSpec
public import Idealize.ShloMosaic.Lib.Pipeline.ValueKit

@[expose] public section

set_option maxRecDepth 16384

noncomputable section

namespace Cert.DxIdeal.Val

open Cert.DxIdeal Cert.DxIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 32, 0] ∧ win0_1.index t = ![t.val % 32, 0] ∧ win0_2.index t = ![t.val % 32, 0]
    ∧ win0_3.index t = ![t.val / 32, 0] ∧ win0_4.index t = ![t.val / 32, 0, 0] ∧ win0_5.index t = ![0, t.val / 32]
    ∧ win0_6.index t = ![t.val % 32, t.val / 32] :=
  (by decide +kernel : ∀ t : Fin grid0.N, win0_0.index t = ![t.val % 32, 0] ∧ win0_1.index t = ![t.val % 32, 0] ∧ win0_2.index t = ![t.val % 32, 0]
    ∧ win0_3.index t = ![t.val / 32, 0] ∧ win0_4.index t = ![t.val / 32, 0, 0] ∧ win0_5.index t = ![0, t.val / 32]
    ∧ win0_6.index t = ![t.val % 32, t.val / 32])

/-- The adapters' weights as the region finds them: row `g * 32 + k` is rank `k` of adapter `g`. -/
theorem V_v0 (c : Dev nD) (k : Fin 320) (d : Fin 2560) :
    V m c main_v0 (ix2 k d) = m ((c : Thread nD τ).loc main_arg5) (ix3 (⟨k.val / 32, by omega⟩ : Fin 10) (⟨k.val % 32, by omega⟩ : Fin 32) d) := by
  entry_read
  pointwise

/-- The weight scales as the region finds them. -/
theorem V_v3 (c : Dev nD) (p : Fin 2) (q : Fin 10) (f : Fin 10240) :
    V m c main_v3 (ix3 p q f) = m ((c : Thread nD τ).loc main_arg4) (ix2 (⟨p.val * 10 + q.val, by omega⟩ : Fin 20) (⟨f.val / 128, by omega⟩ : Fin 80)) := by
  entry_read
  pointwise

/-- Weights and weight scales of two points of one column block are the same blocks. -/
theorem iblk3_congr (c : Dev nD) (t t' : Fin cfg0.N) (h : t.val / 32 = t'.val / 32) : iblk m c 3 t = iblk m c 3 t' := by
  funext y
  idx_vars y
  blk_ext [iblk, idx t, idx t']

theorem iblk4_congr (c : Dev nD) (t t' : Fin cfg0.N) (h : t.val / 32 = t'.val / 32) : iblk m c 4 t = iblk m c 4 t' := by
  funext y
  idx_vars y
  blk_ext [iblk, idx t, idx t']

/-- The scratch after the first point of a column block: its dequantised weights. -/
theorem scratch_A (c : Dev nD) (t : Fin cfg0.N) (h0 : t.val % 32 = 0) :
    (outsAt0 m c t.val t.isLt).2 = deq (iblk m c 3 t) (iblk m c 4 t) := by
  rw [outsAt0_A m c t h0]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)

/-- The other points keep it. -/
theorem scratch_B (c : Dev nD) (t : Fin cfg0.N) (h0 : ¬t.val % 32 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- The scratch after every point: the dequantised weights of the point's column block. -/
theorem scratch (c : Dev nD) (n : ℕ) : ∀ t : Fin cfg0.N, t.val = n → (outsAt0 m c t.val t.isLt).2 = deq (iblk m c 3 t) (iblk m c 4 t) := by
  induction n with
  | zero => exact fun t ht => scratch_A m c t (by omega)
  | succ n ih =>
    intro t ht
    by_cases h0 : t.val % 32 = 0
    · exact scratch_A m c t h0
    · have hk : t.val / 32 = (t.val - 1) / 32 := by omega
      rw [scratch_B m c t h0, iblk3_congr m c t ⟨t.val - 1, by omega⟩ hk, iblk4_congr m c t ⟨t.val - 1, by omega⟩ hk]
      exact ih ⟨t.val - 1, by omega⟩ (by show t.val - 1 = n; omega)

/-- What every point leaves in the output's block. -/
theorem block (c : Dev nD) (t : Fin cfg0.N) : (outsAt0 m c t.val t.isLt).1
    = out (iblk m c 0 t) (iblk m c 1 t) (iblk m c 2 t) (iblk m c 5 t) (deq (iblk m c 3 t) (iblk m c 4 t)) := by
  by_cases h0 : t.val % 32 = 0
  · rw [outsAt0_A m c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)
  · rw [← scratch m c t.val t rfl, scratch_B m c t h0, outsAt0_B m c t h0]
    dsimp only
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) _

/-! ### One point's reads -/

/-- The array's row at row `r` of point `t`'s blocks, and its column at column `d`. -/
def row (t : Fin cfg0.N) (r : Fin 512) : Fin 16384 := ⟨t.val % 32 * 512 + r.val, by omega⟩
def col (t : Fin cfg0.N) (d : Fin 1280) : Fin 2560 := ⟨t.val / 32 * 1280 + d.val, by have ht : t.val < 64 := t.isLt; omega⟩

variable (c : Dev nD) (t : Fin cfg0.N)

theorem read0 (r : Fin 512) (f : Fin 10240) : iblk m c 0 t (ix2 r f) = m ((c : Thread nD τ).loc main_arg0) (ix2 (row t r) f) := by
  blk_ext [iblk, V_main_arg0, idx t, row]

theorem read1 (r : Fin 512) (l : Fin 128) : iblk m c 1 t (ix2 r l) = m ((c : Thread nD τ).loc main_arg1) (ix2 (row t r) l) := by
  blk_ext [iblk, V_main_arg1, idx t, row]

theorem read2 (r : Fin 512) (k : Fin 320) : iblk m c 2 t (ix2 r k) = m ((c : Thread nD τ).loc main_arg2) (ix2 (row t r) k) := by
  blk_ext [iblk, V_main_arg2, idx t, row]

theorem read3 (d : Fin 1280) (f : Fin 10240) : iblk m c 3 t (ix2 d f) = m ((c : Thread nD τ).loc main_arg3) (ix2 (col t d) f) := by
  blk_ext [iblk, V_main_arg3, idx t, col]

theorem read4 (d : Fin 1280) (f : Fin 10240) : iblk m c 4 t (ix3 (0 : Fin 1) (⟨d.val / 128, by omega⟩ : Fin 10) f)
    = m ((c : Thread nD τ).loc main_arg4) (ix2 (⟨(col t d).val / 128, by omega⟩ : Fin 20) (⟨f.val / 128, by omega⟩ : Fin 80)) := by
  have ht : t.val < 64 := t.isLt
  have h : iblk m c 4 t (ix3 (0 : Fin 1) (⟨d.val / 128, by omega⟩ : Fin 10) f)
      = V m c main_v3 (ix3 (⟨t.val / 32, by omega⟩ : Fin 2) (⟨d.val / 128, by omega⟩ : Fin 10) f) := by
    blk_ext [iblk, idx t]
  rw [h, V_v3]
  refine congrArg _ (congrArg (fun p => ix2 p _) (Fin.ext ?_))
  show t.val / 32 * 10 + d.val / 128 = (t.val / 32 * 1280 + d.val) / 128
  omega

theorem read5 (g : Fin 10) (k : Fin 32) (d : Fin 1280) : iblk m c 5 t (ix2 (⟨g.val * 32 + k.val, by omega⟩ : Fin 320) d)
    = m ((c : Thread nD τ).loc main_arg5) (ix3 g k (col t d)) := by
  have h : iblk m c 5 t (ix2 (⟨g.val * 32 + k.val, by omega⟩ : Fin 320) d)
      = V m c main_v0 (ix2 (⟨g.val * 32 + k.val, by omega⟩ : Fin 320) (col t d)) := by
    blk_ext [iblk, idx t, col]
  rw [h, V_v0]
  refine congrArg _ ?_
  congr 1 <;> refine Fin.ext ?_ <;> dsimp only <;> omega

/-- One point's block is `dx` at the block's place in the array. -/
theorem point (r : Fin 512) (d : Fin 1280) :
    out (iblk m c 0 t) (iblk m c 1 t) (iblk m c 2 t) (iblk m c 5 t) (deq (iblk m c 3 t) (iblk m c 4 t)) (ix2 r d)
      = Cert.DxSpec.dx (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (row t r) (col t d) := by
  refine (out_apply ..).trans ?_
  unfold Cert.DxSpec.dx Cert.DxSpec.adapters
  refine congrArg₂ (· + ·) (congrArg₂ (· * ·) (Finset.sum_congr rfl fun f _ => ?_) (read1 m c t r 0)) ?_
  · exact congrArg₂ (· * ·) (read0 m c t r f) (congrArg₂ (· * ·) (read3 m c t d f) (read4 m c t d f))
  · rw [Fin.sum_univ_tiles (N := 320) 10 32 (by norm_num)]
    exact Finset.sum_congr rfl fun g _ => Finset.sum_congr rfl fun k _ => congrArg₂ (· * ·) (read2 m c t r _) (read5 m c t g k d)

/-- The result array after the run, index by index. -/
theorem final : (dats m 0 c).arrAt 6 (cfgs 0).N
    = fun j => Cert.DxSpec.dx (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (j 0) (j 1) := by
  refine (dats m 0 c).arrAt_eq_of_covers 6 _ (by decide +kernel) fun t _ y => ?_
  blk_simp
  rw [after0_6, block]
  idx_vars y
  refine (point m c t y0 y1).trans (congrArg₂ (Cert.DxSpec.dx _ _ _ _ _ _) (Fin.ext ?_) (Fin.ext ?_))
  · blk_simp [idx t, row]
  · blk_simp [idx t, col]

end Cert.DxIdeal.Val

end
-- ==== Proof.DxClaim.lean ====
/-
  The value claim of the second call: the kernel and the reference leave the same result array, `Cert.DxSpec.dx` of the arguments.
-/
module

public import proofs.«01_k».proof.Defs
public import proofs.«01_k».proof.Proof.DxRefValue
public import proofs.«01_k».proof.Proof.DxValue
public import Idealize.ShloMosaic.Lib.Claim

@[expose] public section

set_option maxRecDepth 16384

noncomputable section

namespace Cert.Proof

open Idealize.ShloMosaic Idealize.ShloMosaic.TcCoe Idealize.SL.Sem

theorem algebraicDx : Cert.algebraic_DxIdeal_DxRefIdeal := by
  pair_intro
  · run_from Cert.DxIdeal.Gen.run_main m g
  · run_from Cert.DxRefIdeal.Gen.run_main m' g'
    rw [Cert.DxIdeal.Val.final m c, Cert.DxRefIdeal.Val.final m' c]
    obtain ⟨h0, h1, h2, h3, h4, h5⟩ := hagree c
    rw [h0, h1, h2, h3, h4, h5]
    rfl

end Cert.Proof

end
-- ==== Proof.lean ====
/- The certificate: the frames of the programs, and the value claims of the two calls. -/
module

public import proofs.«01_k».proof.Defs
public import proofs.«01_k».proof.Proof.Gen.Adapter
public import proofs.«01_k».proof.Proof.Gen.Adapter.Skeleton
public import proofs.«01_k».proof.Proof.Gen.Adapter.Launch
public import proofs.«01_k».proof.Proof.Gen.Adapter.Points
public import proofs.«01_k».proof.Proof.Gen.Adapter.Frame
public import proofs.«01_k».proof.Proof.Gen.AdapterIdeal
public import proofs.«01_k».proof.Proof.Gen.AdapterIdeal.Skeleton
public import proofs.«01_k».proof.Proof.Gen.AdapterIdeal.Launch
public import proofs.«01_k».proof.Proof.Gen.AdapterIdeal.Points
public import proofs.«01_k».proof.Proof.Gen.AdapterIdeal.Frame
public import proofs.«01_k».proof.Proof.Gen.AdapterRefIdeal
public import proofs.«01_k».proof.Proof.Gen.AdapterRefIdeal.Skeleton
public import proofs.«01_k».proof.Proof.Gen.AdapterRefIdeal.Launch
public import proofs.«01_k».proof.Proof.Gen.AdapterRefIdeal.Points
public import proofs.«01_k».proof.Proof.Gen.AdapterRefIdeal.Frame
public import proofs.«01_k».proof.Proof.Gen.Pre_tame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Value
public import proofs.«01_k».proof.Proof.Gen.DxRefIdeal.Value
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Skeleton
public import proofs.«01_k».proof.Proof.Gen.DxRefIdeal.Launch
public import proofs.«01_k».proof.Proof.Gen.DxRefIdeal.Points
public import proofs.«01_k».proof.Proof.Gen.DxRefIdeal.Frame
public import proofs.«01_k».proof.Proof.AdClaim
public import proofs.«01_k».proof.Proof.DxClaim
public import Idealize.ShloMosaic.Adequacy
public import Idealize.ShloMosaic.Init

@[expose] public section

noncomputable section

namespace Cert.Proof

open Idealize.ShloMosaic Idealize.SL.Sem

theorem claim : Cert.Claim := ⟨Cert.Adapter.Gen.facts, Cert.AdapterIdeal.Gen.facts, Cert.AdapterRefIdeal.Gen.facts,
  Cert.Dx.Gen.facts, Cert.DxIdeal.Gen.facts, Cert.DxRefIdeal.Gen.facts, Cert.Pre_tame.Gen.facts,
  fun m ρ _ => Cert.Adapter.Gen.frame m ρ,
  fun m ρ _ => Cert.AdapterIdeal.Gen.frame m ρ,
  fun m ρ _ => Cert.AdapterIdeal.Gen.frame m ρ,
  fun m ρ _ => Cert.AdapterRefIdeal.Gen.frame m ρ,
  fun m ρ _ => Cert.AdapterRefIdeal.Gen.frame m ρ,
  fun m ρ _ => Cert.Dx.Gen.frame m ρ,
  fun m ρ _ => Cert.DxIdeal.Gen.frame m ρ,
  fun m ρ _ => Cert.DxRefIdeal.Gen.frame m ρ,
  trivial,
  algebraicAdapter,
  trivial,
  algebraicDx⟩

end Cert.Proof

end
